-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S384x256 : Shape := ⟨2, ![384, 256]⟩
abbrev S896x128 : Shape := ⟨2, ![896, 128]⟩
abbrev S3x2x64x128 : Shape := ⟨4, ![3, 2, 64, 128]⟩
abbrev S3x2x3x64x128 : Shape := ⟨5, ![3, 2, 3, 64, 128]⟩
abbrev S3x2x3 : Shape := ⟨3, ![3, 2, 3]⟩
abbrev S_ : Shape := ⟨0, ![]⟩
abbrev S64x128 : Shape := ⟨2, ![64, 128]⟩
abbrev S64x256 : Shape := ⟨2, ![64, 256]⟩
abbrev S1x1x64x128 : Shape := ⟨4, ![1, 1, 64, 128]⟩
abbrev S1x1x1 : Shape := ⟨3, ![1, 1, 1]⟩
abbrev S1x1x1x64x128 : Shape := ⟨5, ![1, 1, 1, 64, 128]⟩

abbrev nBuf : Space → Nat
  | .hbm => 10
  | .vmem => 5
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S384x256, .f32⟩
  | .hbm, ⟨8, _⟩ => ⟨S896x128, .f32⟩
  | .hbm, ⟨9, _⟩ => ⟨S128x128, .f32⟩
  | .local _ .vmem, ⟨0, _⟩ => ⟨S384x256, .f32⟩
  | .local _ .vmem, ⟨1, _⟩ => ⟨S896x128, .f32⟩
  | .local _ .vmem, ⟨2, _⟩ => ⟨S128x128, .f32⟩
  | .local _ .vmem, ⟨3, _⟩ => ⟨S3x2x64x128, .bf16⟩
  | .local _ .vmem, ⟨4, _⟩ => ⟨S3x2x3x64x128, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_38 : BitVec 32 := 1#32
  let v57 : BitVec 32 := Scalar.addi v2 c1_i32_38
  let c1_i32_39 : BitVec 32 := 1#32
  let v58 : BitVec 32 := Scalar.addi v57 c1_i32_39
  let c4_i32_40 : BitVec 32 := 4#32
  let c0_i32_41 : BitVec 32 := 0#32
  let v59 : BitVec 1 := Scalar.cmpi .eq c4_i32_40 c0_i32_41
  let c1_i32_42 : BitVec 32 := 1#32
  let v60 : BitVec 32 := Scalar.select v59 c1_i32_42 c4_i32_40
  let v61 : BitVec 32 := Scalar.remsi v58 v60
  let c0_i32_44 : BitVec 32 := 0#32
  let v63 : BitVec 1 := Scalar.cmpi .slt v61 c0_i32_44
  let c0_i32_45 : BitVec 32 := 0#32
  let v64 : BitVec 1 := Scalar.cmpi .slt v60 c0_i32_45
  let v65 : BitVec 1 := Scalar.xori v63 v64
  let c0_i32_43 : BitVec 32 := 0#32
  let v62 : BitVec 1 := Scalar.cmpi .ne v61 c0_i32_43
  let v66 : BitVec 1 := Scalar.andi v65 v62
  let v67 : BitVec 32 := Scalar.addi v61 v60
  let v68 : BitVec 32 := Scalar.select v66 v67 v61
  let c1_i32_57 : BitVec 32 := 1#32
  let v69 : BitVec 32 := Scalar.muli v68 c1_i32_57
  let v70 : BitVec 32 := Scalar.addi c0_i32_58 v69
  v70.toNat
def k0_dev5 (d0 : Dev nD) : Nat :=
  let c0_i32_83 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_63 : BitVec 32 := 0#32
  let v79 : BitVec 32 := Scalar.addi v2 c0_i32_63
  let c1_i32_64 : BitVec 32 := 1#32
  let v80 : BitVec 32 := Scalar.addi v79 c1_i32_64
  let c4_i32_65 : BitVec 32 := 4#32
  let c0_i32_66 : BitVec 32 := 0#32
  let v81 : BitVec 1 := Scalar.cmpi .eq c4_i32_65 c0_i32_66
  let c1_i32_67 : BitVec 32 := 1#32
  let v82 : BitVec 32 := Scalar.select v81 c1_i32_67 c4_i32_65
  let v83 : BitVec 32 := Scalar.remsi v80 v82
  let c0_i32_69 : BitVec 32 := 0#32
  let v85 : BitVec 1 := Scalar.cmpi .slt v83 c0_i32_69
  let c0_i32_70 : BitVec 32 := 0#32
  let v86 : BitVec 1 := Scalar.cmpi .slt v82 c0_i32_70
  let v87 : BitVec 1 := Scalar.xori v85 v86
  let c0_i32_68 : BitVec 32 := 0#32
  let v84 : BitVec 1 := Scalar.cmpi .ne v83 c0_i32_68
  let v88 : BitVec 1 := Scalar.andi v87 v84
  let v89 : BitVec 32 := Scalar.addi v83 v82
  let v90 : BitVec 32 := Scalar.select v88 v89 v83
  let c1_i32_82 : BitVec 32 := 1#32
  let v91 : BitVec 32 := Scalar.muli v90 c1_i32_82
  let v92 : BitVec 32 := Scalar.addi c0_i32_83 v91
  v92.toNat
def k0_dev6 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_88 : BitVec 32 := 2#32
  let v101 : BitVec 32 := Scalar.addi v2 c2_i32_88
  let c1_i32_89 : BitVec 32 := 1#32
  let v102 : BitVec 32 := Scalar.addi v101 c1_i32_89
  let c4_i32_90 : BitVec 32 := 4#32
  let c0_i32_91 : BitVec 32 := 0#32
  let v103 : BitVec 1 := Scalar.cmpi .eq c4_i32_90 c0_i32_91
  let c1_i32_92 : BitVec 32 := 1#32
  let v104 : BitVec 32 := Scalar.select v103 c1_i32_92 c4_i32_90
  let v105 : BitVec 32 := Scalar.remsi v102 v104
  let c0_i32_94 : BitVec 32 := 0#32
  let v107 : BitVec 1 := Scalar.cmpi .slt v105 c0_i32_94
  let c0_i32_95 : BitVec 32 := 0#32
  let v108 : BitVec 1 := Scalar.cmpi .slt v104 c0_i32_95
  let v109 : BitVec 1 := Scalar.xori v107 v108
  let c0_i32_93 : BitVec 32 := 0#32
  let v106 : BitVec 1 := Scalar.cmpi .ne v105 c0_i32_93
  let v110 : BitVec 1 := Scalar.andi v109 v106
  let v111 : BitVec 32 := Scalar.addi v105 v104
  let v112 : BitVec 32 := Scalar.select v110 v111 v105
  let c1_i32_107 : BitVec 32 := 1#32
  let v113 : BitVec 32 := Scalar.muli v112 c1_i32_107
  let v114 : BitVec 32 := Scalar.addi c0_i32_108 v113
  v114.toNat
def k0_dev7 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_124 : BitVec 32 := 1#32
  let v137 : BitVec 32 := Scalar.addi v2 c1_i32_124
  let c1_i32_125 : BitVec 32 := 1#32
  let v138 : BitVec 32 := Scalar.addi v137 c1_i32_125
  let c4_i32_126 : BitVec 32 := 4#32
  let c0_i32_127 : BitVec 32 := 0#32
  let v139 : BitVec 1 := Scalar.cmpi .eq c4_i32_126 c0_i32_127
  let c1_i32_128 : BitVec 32 := 1#32
  let v140 : BitVec 32 := Scalar.select v139 c1_i32_128 c4_i32_126
  let v141 : BitVec 32 := Scalar.remsi v138 v140
  let c0_i32_130 : BitVec 32 := 0#32
  let v143 : BitVec 1 := Scalar.cmpi .slt v141 c0_i32_130
  let c0_i32_131 : BitVec 32 := 0#32
  let v144 : BitVec 1 := Scalar.cmpi .slt v140 c0_i32_131
  let v145 : BitVec 1 := Scalar.xori v143 v144
  let c0_i32_129 : BitVec 32 := 0#32
  let v142 : BitVec 1 := Scalar.cmpi .ne v141 c0_i32_129
  let v146 : BitVec 1 := Scalar.andi v145 v142
  let v147 : BitVec 32 := Scalar.addi v141 v140
  let v148 : BitVec 32 := Scalar.select v146 v147 v141
  let c1_i32_143 : BitVec 32 := 1#32
  let v149 : BitVec 32 := Scalar.muli v148 c1_i32_143
  let v150 : BitVec 32 := Scalar.addi c0_i32_144 v149
  v150.toNat
def k0_dev8 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_149 : BitVec 32 := 0#32
  let v159 : BitVec 32 := Scalar.addi v2 c0_i32_149
  let c1_i32_150 : BitVec 32 := 1#32
  let v160 : BitVec 32 := Scalar.addi v159 c1_i32_150
  let c4_i32_151 : BitVec 32 := 4#32
  let c0_i32_152 : BitVec 32 := 0#32
  let v161 : BitVec 1 := Scalar.cmpi .eq c4_i32_151 c0_i32_152
  let c1_i32_153 : BitVec 32 := 1#32
  let v162 : BitVec 32 := Scalar.select v161 c1_i32_153 c4_i32_151
  let v163 : BitVec 32 := Scalar.remsi v160 v162
  let c0_i32_155 : BitVec 32 := 0#32
  let v165 : BitVec 1 := Scalar.cmpi .slt v163 c0_i32_155
  let c0_i32_156 : BitVec 32 := 0#32
  let v166 : BitVec 1 := Scalar.cmpi .slt v162 c0_i32_156
  let v167 : BitVec 1 := Scalar.xori v165 v166
  let c0_i32_154 : BitVec 32 := 0#32
  let v164 : BitVec 1 := Scalar.cmpi .ne v163 c0_i32_154
  let v168 : BitVec 1 := Scalar.andi v167 v164
  let v169 : BitVec 32 := Scalar.addi v163 v162
  let v170 : BitVec 32 := Scalar.select v168 v169 v163
  let c1_i32_168 : BitVec 32 := 1#32
  let v171 : BitVec 32 := Scalar.muli v170 c1_i32_168
  let v172 : BitVec 32 := Scalar.addi c0_i32_169 v171
  v172.toNat
def k0_dev9 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_174 : BitVec 32 := 2#32
  let v181 : BitVec 32 := Scalar.addi v2 c2_i32_174
  let c1_i32_175 : BitVec 32 := 1#32
  let v182 : BitVec 32 := Scalar.addi v181 c1_i32_175
  let c4_i32_176 : BitVec 32 := 4#32
  let c0_i32_177 : BitVec 32 := 0#32
  let v183 : BitVec 1 := Scalar.cmpi .eq c4_i32_176 c0_i32_177
  let c1_i32_178 : BitVec 32 := 1#32
  let v184 : BitVec 32 := Scalar.select v183 c1_i32_178 c4_i32_176
  let v185 : BitVec 32 := Scalar.remsi v182 v184
  let c0_i32_180 : BitVec 32 := 0#32
  let v187 : BitVec 1 := Scalar.cmpi .slt v185 c0_i32_180
  let c0_i32_181 : BitVec 32 := 0#32
  let v188 : BitVec 1 := Scalar.cmpi .slt v184 c0_i32_181
  let v189 : BitVec 1 := Scalar.xori v187 v188
  let c0_i32_179 : BitVec 32 := 0#32
  let v186 : BitVec 1 := Scalar.cmpi .ne v185 c0_i32_179
  let v190 : BitVec 1 := Scalar.andi v189 v186
  let v191 : BitVec 32 := Scalar.addi v185 v184
  let v192 : BitVec 32 := Scalar.select v190 v191 v185
  let c1_i32_193 : BitVec 32 := 1#32
  let v193 : BitVec 32 := Scalar.muli v192 c1_i32_193
  let v194 : BitVec 32 := Scalar.addi c0_i32_194 v193
  v194.toNat
def k0_dev10 (d0 : Dev nD) : Nat :=
  let c0_i32_294 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_274 : BitVec 32 := 1#32
  let v251 : BitVec 32 := Scalar.addi v2 c1_i32_274
  let c1_i32_275 : BitVec 32 := 1#32
  let v252 : BitVec 32 := Scalar.addi v251 c1_i32_275
  let c4_i32_276 : BitVec 32 := 4#32
  let c0_i32_277 : BitVec 32 := 0#32
  let v253 : BitVec 1 := Scalar.cmpi .eq c4_i32_276 c0_i32_277
  let c1_i32_278 : BitVec 32 := 1#32
  let v254 : BitVec 32 := Scalar.select v253 c1_i32_278 c4_i32_276
  let v255 : BitVec 32 := Scalar.remsi v252 v254
  let c0_i32_280 : BitVec 32 := 0#32
  let v257 : BitVec 1 := Scalar.cmpi .slt v255 c0_i32_280
  let c0_i32_281 : BitVec 32 := 0#32
  let v258 : BitVec 1 := Scalar.cmpi .slt v254 c0_i32_281
  let v259 : BitVec 1 := Scalar.xori v257 v258
  let c0_i32_279 : BitVec 32 := 0#32
  let v256 : BitVec 1 := Scalar.cmpi .ne v255 c0_i32_279
  let v260 : BitVec 1 := Scalar.andi v259 v256
  let v261 : BitVec 32 := Scalar.addi v255 v254
  let v262 : BitVec 32 := Scalar.select v260 v261 v255
  let c1_i32_293 : BitVec 32 := 1#32
  let v263 : BitVec 32 := Scalar.muli v262 c1_i32_293
  let v264 : BitVec 32 := Scalar.addi c0_i32_294 v263
  v264.toNat
def k0_dev11 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_299 : BitVec 32 := 0#32
  let v273 : BitVec 32 := Scalar.addi v2 c0_i32_299
  let c1_i32_300 : BitVec 32 := 1#32
  let v274 : BitVec 32 := Scalar.addi v273 c1_i32_300
  let c4_i32_301 : BitVec 32 := 4#32
  let c0_i32_302 : BitVec 32 := 0#32
  let v275 : BitVec 1 := Scalar.cmpi .eq c4_i32_301 c0_i32_302
  let c1_i32_303 : BitVec 32 := 1#32
  let v276 : BitVec 32 := Scalar.select v275 c1_i32_303 c4_i32_301
  let v277 : BitVec 32 := Scalar.remsi v274 v276
  let c0_i32_305 : BitVec 32 := 0#32
  let v279 : BitVec 1 := Scalar.cmpi .slt v277 c0_i32_305
  let c0_i32_306 : BitVec 32 := 0#32
  let v280 : BitVec 1 := Scalar.cmpi .slt v276 c0_i32_306
  let v281 : BitVec 1 := Scalar.xori v279 v280
  let c0_i32_304 : BitVec 32 := 0#32
  let v278 : BitVec 1 := Scalar.cmpi .ne v277 c0_i32_304
  let v282 : BitVec 1 := Scalar.andi v281 v278
  let v283 : BitVec 32 := Scalar.addi v277 v276
  let v284 : BitVec 32 := Scalar.select v282 v283 v277
  let c1_i32_318 : BitVec 32 := 1#32
  let v285 : BitVec 32 := Scalar.muli v284 c1_i32_318
  let v286 : BitVec 32 := Scalar.addi c0_i32_319 v285
  v286.toNat
def k0_dev12 (d0 : Dev nD) : Nat :=
  let c0_i32_344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_324 : BitVec 32 := 2#32
  let v295 : BitVec 32 := Scalar.addi v2 c2_i32_324
  let c1_i32_325 : BitVec 32 := 1#32
  let v296 : BitVec 32 := Scalar.addi v295 c1_i32_325
  let c4_i32_326 : BitVec 32 := 4#32
  let c0_i32_327 : BitVec 32 := 0#32
  let v297 : BitVec 1 := Scalar.cmpi .eq c4_i32_326 c0_i32_327
  let c1_i32_328 : BitVec 32 := 1#32
  let v298 : BitVec 32 := Scalar.select v297 c1_i32_328 c4_i32_326
  let v299 : BitVec 32 := Scalar.remsi v296 v298
  let c0_i32_330 : BitVec 32 := 0#32
  let v301 : BitVec 1 := Scalar.cmpi .slt v299 c0_i32_330
  let c0_i32_331 : BitVec 32 := 0#32
  let v302 : BitVec 1 := Scalar.cmpi .slt v298 c0_i32_331
  let v303 : BitVec 1 := Scalar.xori v301 v302
  let c0_i32_329 : BitVec 32 := 0#32
  let v300 : BitVec 1 := Scalar.cmpi .ne v299 c0_i32_329
  let v304 : BitVec 1 := Scalar.andi v303 v300
  let v305 : BitVec 32 := Scalar.addi v299 v298
  let v306 : BitVec 32 := Scalar.select v304 v305 v299
  let c1_i32_343 : BitVec 32 := 1#32
  let v307 : BitVec 32 := Scalar.muli v306 c1_i32_343
  let v308 : BitVec 32 := Scalar.addi c0_i32_344 v307
  v308.toNat
def k0_dev13 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_426 : BitVec 32 := 1#32
  let v365 : BitVec 32 := Scalar.addi v2 c1_i32_426
  let c1_i32_427 : BitVec 32 := 1#32
  let v366 : BitVec 32 := Scalar.addi v365 c1_i32_427
  let c4_i32_428 : BitVec 32 := 4#32
  let c0_i32_429 : BitVec 32 := 0#32
  let v367 : BitVec 1 := Scalar.cmpi .eq c4_i32_428 c0_i32_429
  let c1_i32_430 : BitVec 32 := 1#32
  let v368 : BitVec 32 := Scalar.select v367 c1_i32_430 c4_i32_428
  let v369 : BitVec 32 := Scalar.remsi v366 v368
  let c0_i32_432 : BitVec 32 := 0#32
  let v371 : BitVec 1 := Scalar.cmpi .slt v369 c0_i32_432
  let c0_i32_433 : BitVec 32 := 0#32
  let v372 : BitVec 1 := Scalar.cmpi .slt v368 c0_i32_433
  let v373 : BitVec 1 := Scalar.xori v371 v372
  let c0_i32_431 : BitVec 32 := 0#32
  let v370 : BitVec 1 := Scalar.cmpi .ne v369 c0_i32_431
  let v374 : BitVec 1 := Scalar.andi v373 v370
  let v375 : BitVec 32 := Scalar.addi v369 v368
  let v376 : BitVec 32 := Scalar.select v374 v375 v369
  let c1_i32_445 : BitVec 32 := 1#32
  let v377 : BitVec 32 := Scalar.muli v376 c1_i32_445
  let v378 : BitVec 32 := Scalar.addi c0_i32_446 v377
  v378.toNat
def k0_dev14 (d0 : Dev nD) : Nat :=
  let c0_i32_471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_451 : BitVec 32 := 0#32
  let v387 : BitVec 32 := Scalar.addi v2 c0_i32_451
  let c1_i32_452 : BitVec 32 := 1#32
  let v388 : BitVec 32 := Scalar.addi v387 c1_i32_452
  let c4_i32_453 : BitVec 32 := 4#32
  let c0_i32_454 : BitVec 32 := 0#32
  let v389 : BitVec 1 := Scalar.cmpi .eq c4_i32_453 c0_i32_454
  let c1_i32_455 : BitVec 32 := 1#32
  let v390 : BitVec 32 := Scalar.select v389 c1_i32_455 c4_i32_453
  let v391 : BitVec 32 := Scalar.remsi v388 v390
  let c0_i32_457 : BitVec 32 := 0#32
  let v393 : BitVec 1 := Scalar.cmpi .slt v391 c0_i32_457
  let c0_i32_458 : BitVec 32 := 0#32
  let v394 : BitVec 1 := Scalar.cmpi .slt v390 c0_i32_458
  let v395 : BitVec 1 := Scalar.xori v393 v394
  let c0_i32_456 : BitVec 32 := 0#32
  let v392 : BitVec 1 := Scalar.cmpi .ne v391 c0_i32_456
  let v396 : BitVec 1 := Scalar.andi v395 v392
  let v397 : BitVec 32 := Scalar.addi v391 v390
  let v398 : BitVec 32 := Scalar.select v396 v397 v391
  let c1_i32_470 : BitVec 32 := 1#32
  let v399 : BitVec 32 := Scalar.muli v398 c1_i32_470
  let v400 : BitVec 32 := Scalar.addi c0_i32_471 v399
  v400.toNat
def k0_dev15 (d0 : Dev nD) : Nat :=
  let c0_i32_496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_476 : BitVec 32 := 2#32
  let v409 : BitVec 32 := Scalar.addi v2 c2_i32_476
  let c1_i32_477 : BitVec 32 := 1#32
  let v410 : BitVec 32 := Scalar.addi v409 c1_i32_477
  let c4_i32_478 : BitVec 32 := 4#32
  let c0_i32_479 : BitVec 32 := 0#32
  let v411 : BitVec 1 := Scalar.cmpi .eq c4_i32_478 c0_i32_479
  let c1_i32_480 : BitVec 32 := 1#32
  let v412 : BitVec 32 := Scalar.select v411 c1_i32_480 c4_i32_478
  let v413 : BitVec 32 := Scalar.remsi v410 v412
  let c0_i32_482 : BitVec 32 := 0#32
  let v415 : BitVec 1 := Scalar.cmpi .slt v413 c0_i32_482
  let c0_i32_483 : BitVec 32 := 0#32
  let v416 : BitVec 1 := Scalar.cmpi .slt v412 c0_i32_483
  let v417 : BitVec 1 := Scalar.xori v415 v416
  let c0_i32_481 : BitVec 32 := 0#32
  let v414 : BitVec 1 := Scalar.cmpi .ne v413 c0_i32_481
  let v418 : BitVec 1 := Scalar.andi v417 v414
  let v419 : BitVec 32 := Scalar.addi v413 v412
  let v420 : BitVec 32 := Scalar.select v418 v419 v413
  let c1_i32_495 : BitVec 32 := 1#32
  let v421 : BitVec 32 := Scalar.muli v420 c1_i32_495
  let v422 : BitVec 32 := Scalar.addi c0_i32_496 v421
  v422.toNat
def k0_dev16 (d0 : Dev nD) : Nat :=
  let c0_i32_596 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_576 : BitVec 32 := 1#32
  let v479 : BitVec 32 := Scalar.addi v2 c1_i32_576
  let c1_i32_577 : BitVec 32 := 1#32
  let v480 : BitVec 32 := Scalar.addi v479 c1_i32_577
  let c4_i32_578 : BitVec 32 := 4#32
  let c0_i32_579 : BitVec 32 := 0#32
  let v481 : BitVec 1 := Scalar.cmpi .eq c4_i32_578 c0_i32_579
  let c1_i32_580 : BitVec 32 := 1#32
  let v482 : BitVec 32 := Scalar.select v481 c1_i32_580 c4_i32_578
  let v483 : BitVec 32 := Scalar.remsi v480 v482
  let c0_i32_582 : BitVec 32 := 0#32
  let v485 : BitVec 1 := Scalar.cmpi .slt v483 c0_i32_582
  let c0_i32_583 : BitVec 32 := 0#32
  let v486 : BitVec 1 := Scalar.cmpi .slt v482 c0_i32_583
  let v487 : BitVec 1 := Scalar.xori v485 v486
  let c0_i32_581 : BitVec 32 := 0#32
  let v484 : BitVec 1 := Scalar.cmpi .ne v483 c0_i32_581
  let v488 : BitVec 1 := Scalar.andi v487 v484
  let v489 : BitVec 32 := Scalar.addi v483 v482
  let v490 : BitVec 32 := Scalar.select v488 v489 v483
  let c1_i32_595 : BitVec 32 := 1#32
  let v491 : BitVec 32 := Scalar.muli v490 c1_i32_595
  let v492 : BitVec 32 := Scalar.addi c0_i32_596 v491
  v492.toNat
def k0_dev17 (d0 : Dev nD) : Nat :=
  let c0_i32_621 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_601 : BitVec 32 := 0#32
  let v501 : BitVec 32 := Scalar.addi v2 c0_i32_601
  let c1_i32_602 : BitVec 32 := 1#32
  let v502 : BitVec 32 := Scalar.addi v501 c1_i32_602
  let c4_i32_603 : BitVec 32 := 4#32
  let c0_i32_604 : BitVec 32 := 0#32
  let v503 : BitVec 1 := Scalar.cmpi .eq c4_i32_603 c0_i32_604
  let c1_i32_605 : BitVec 32 := 1#32
  let v504 : BitVec 32 := Scalar.select v503 c1_i32_605 c4_i32_603
  let v505 : BitVec 32 := Scalar.remsi v502 v504
  let c0_i32_607 : BitVec 32 := 0#32
  let v507 : BitVec 1 := Scalar.cmpi .slt v505 c0_i32_607
  let c0_i32_608 : BitVec 32 := 0#32
  let v508 : BitVec 1 := Scalar.cmpi .slt v504 c0_i32_608
  let v509 : BitVec 1 := Scalar.xori v507 v508
  let c0_i32_606 : BitVec 32 := 0#32
  let v506 : BitVec 1 := Scalar.cmpi .ne v505 c0_i32_606
  let v510 : BitVec 1 := Scalar.andi v509 v506
  let v511 : BitVec 32 := Scalar.addi v505 v504
  let v512 : BitVec 32 := Scalar.select v510 v511 v505
  let c1_i32_620 : BitVec 32 := 1#32
  let v513 : BitVec 32 := Scalar.muli v512 c1_i32_620
  let v514 : BitVec 32 := Scalar.addi c0_i32_621 v513
  v514.toNat
def k0_dev18 (d0 : Dev nD) : Nat :=
  let c0_i32_646 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_626 : BitVec 32 := 2#32
  let v523 : BitVec 32 := Scalar.addi v2 c2_i32_626
  let c1_i32_627 : BitVec 32 := 1#32
  let v524 : BitVec 32 := Scalar.addi v523 c1_i32_627
  let c4_i32_628 : BitVec 32 := 4#32
  let c0_i32_629 : BitVec 32 := 0#32
  let v525 : BitVec 1 := Scalar.cmpi .eq c4_i32_628 c0_i32_629
  let c1_i32_630 : BitVec 32 := 1#32
  let v526 : BitVec 32 := Scalar.select v525 c1_i32_630 c4_i32_628
  let v527 : BitVec 32 := Scalar.remsi v524 v526
  let c0_i32_632 : BitVec 32 := 0#32
  let v529 : BitVec 1 := Scalar.cmpi .slt v527 c0_i32_632
  let c0_i32_633 : BitVec 32 := 0#32
  let v530 : BitVec 1 := Scalar.cmpi .slt v526 c0_i32_633
  let v531 : BitVec 1 := Scalar.xori v529 v530
  let c0_i32_631 : BitVec 32 := 0#32
  let v528 : BitVec 1 := Scalar.cmpi .ne v527 c0_i32_631
  let v532 : BitVec 1 := Scalar.andi v531 v528
  let v533 : BitVec 32 := Scalar.addi v527 v526
  let v534 : BitVec 32 := Scalar.select v532 v533 v527
  let c1_i32_645 : BitVec 32 := 1#32
  let v535 : BitVec 32 := Scalar.muli v534 c1_i32_645
  let v536 : BitVec 32 := Scalar.addi c0_i32_646 v535
  v536.toNat
def k0_dev19 (d0 : Dev nD) : Nat :=
  let c0_i32_748 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_728 : BitVec 32 := 1#32
  let v593 : BitVec 32 := Scalar.addi v2 c1_i32_728
  let c1_i32_729 : BitVec 32 := 1#32
  let v594 : BitVec 32 := Scalar.addi v593 c1_i32_729
  let c4_i32_730 : BitVec 32 := 4#32
  let c0_i32_731 : BitVec 32 := 0#32
  let v595 : BitVec 1 := Scalar.cmpi .eq c4_i32_730 c0_i32_731
  let c1_i32_732 : BitVec 32 := 1#32
  let v596 : BitVec 32 := Scalar.select v595 c1_i32_732 c4_i32_730
  let v597 : BitVec 32 := Scalar.remsi v594 v596
  let c0_i32_734 : BitVec 32 := 0#32
  let v599 : BitVec 1 := Scalar.cmpi .slt v597 c0_i32_734
  let c0_i32_735 : BitVec 32 := 0#32
  let v600 : BitVec 1 := Scalar.cmpi .slt v596 c0_i32_735
  let v601 : BitVec 1 := Scalar.xori v599 v600
  let c0_i32_733 : BitVec 32 := 0#32
  let v598 : BitVec 1 := Scalar.cmpi .ne v597 c0_i32_733
  let v602 : BitVec 1 := Scalar.andi v601 v598
  let v603 : BitVec 32 := Scalar.addi v597 v596
  let v604 : BitVec 32 := Scalar.select v602 v603 v597
  let c1_i32_747 : BitVec 32 := 1#32
  let v605 : BitVec 32 := Scalar.muli v604 c1_i32_747
  let v606 : BitVec 32 := Scalar.addi c0_i32_748 v605
  v606.toNat
def k0_dev20 (d0 : Dev nD) : Nat :=
  let c0_i32_773 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_753 : BitVec 32 := 0#32
  let v615 : BitVec 32 := Scalar.addi v2 c0_i32_753
  let c1_i32_754 : BitVec 32 := 1#32
  let v616 : BitVec 32 := Scalar.addi v615 c1_i32_754
  let c4_i32_755 : BitVec 32 := 4#32
  let c0_i32_756 : BitVec 32 := 0#32
  let v617 : BitVec 1 := Scalar.cmpi .eq c4_i32_755 c0_i32_756
  let c1_i32_757 : BitVec 32 := 1#32
  let v618 : BitVec 32 := Scalar.select v617 c1_i32_757 c4_i32_755
  let v619 : BitVec 32 := Scalar.remsi v616 v618
  let c0_i32_759 : BitVec 32 := 0#32
  let v621 : BitVec 1 := Scalar.cmpi .slt v619 c0_i32_759
  let c0_i32_760 : BitVec 32 := 0#32
  let v622 : BitVec 1 := Scalar.cmpi .slt v618 c0_i32_760
  let v623 : BitVec 1 := Scalar.xori v621 v622
  let c0_i32_758 : BitVec 32 := 0#32
  let v620 : BitVec 1 := Scalar.cmpi .ne v619 c0_i32_758
  let v624 : BitVec 1 := Scalar.andi v623 v620
  let v625 : BitVec 32 := Scalar.addi v619 v618
  let v626 : BitVec 32 := Scalar.select v624 v625 v619
  let c1_i32_772 : BitVec 32 := 1#32
  let v627 : BitVec 32 := Scalar.muli v626 c1_i32_772
  let v628 : BitVec 32 := Scalar.addi c0_i32_773 v627
  v628.toNat
def k0_dev21 (d0 : Dev nD) : Nat :=
  let c0_i32_798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_778 : BitVec 32 := 2#32
  let v637 : BitVec 32 := Scalar.addi v2 c2_i32_778
  let c1_i32_779 : BitVec 32 := 1#32
  let v638 : BitVec 32 := Scalar.addi v637 c1_i32_779
  let c4_i32_780 : BitVec 32 := 4#32
  let c0_i32_781 : BitVec 32 := 0#32
  let v639 : BitVec 1 := Scalar.cmpi .eq c4_i32_780 c0_i32_781
  let c1_i32_782 : BitVec 32 := 1#32
  let v640 : BitVec 32 := Scalar.select v639 c1_i32_782 c4_i32_780
  let v641 : BitVec 32 := Scalar.remsi v638 v640
  let c0_i32_784 : BitVec 32 := 0#32
  let v643 : BitVec 1 := Scalar.cmpi .slt v641 c0_i32_784
  let c0_i32_785 : BitVec 32 := 0#32
  let v644 : BitVec 1 := Scalar.cmpi .slt v640 c0_i32_785
  let v645 : BitVec 1 := Scalar.xori v643 v644
  let c0_i32_783 : BitVec 32 := 0#32
  let v642 : BitVec 1 := Scalar.cmpi .ne v641 c0_i32_783
  let v646 : BitVec 1 := Scalar.andi v645 v642
  let v647 : BitVec 32 := Scalar.addi v641 v640
  let v648 : BitVec 32 := Scalar.select v646 v647 v641
  let c1_i32_797 : BitVec 32 := 1#32
  let v649 : BitVec 32 := Scalar.muli v648 c1_i32_797
  let v650 : BitVec 32 := Scalar.addi c0_i32_798 v649
  v650.toNat
abbrev stage0_0 : Fin 1 → Memref sig .tc .vmem S384x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S896x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S128x128 : Shape := ⟨2, ![128, 128]⟩
abbrev S128x1024 : Shape := ⟨2, ![128, 1024]⟩
abbrev S1024x128 : Shape := ⟨2, ![1024, 128]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S1024x128, .f32⟩
  | .hbm, ⟨5, _⟩ => ⟨S1024x128, .f32⟩
  | .hbm, ⟨6, _⟩ => ⟨S1024x128, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S128x128, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x128, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdeal.Steps.lean ====
/-
# The kernel body as a sequence of steps

The printed body is a straight line of about two hundred operations: a barrier, and, for every layer `l` and half
`b` of the rows, one local product, three sends, three receives. Here each kind of step is written once, at a
symbolic layer, half and slot, and the body is the composition of the steps (`body_eq`, by definitional unfolding).
-/
module

public import proofs.«01_k».proof.Proof.Gen.KernelIdeal
public import proofs.«01_k».proof.Proof.Gen.KernelIdeal.Skeleton

@[expose] public section

noncomputable section

namespace Cert.KernelIdeal.Ring

open Cert.KernelIdeal Cert.KernelIdeal.Gen
open Idealize.ShloMosaic Idealize.SL.Sem

variable {F : FTy → Type} [FloatOps F]

/-- The programs the steps are. -/
abbrev Pr (F : FTy → Type) [FloatOps F] (α : Type) := Prog (TpuEff nD τ sig (Elt F) Λ₀ .tc) α

/-! ## The rectangles of the steps -/

/-- The block `[l, b]` of the send buffer is inside it. -/
theorem inbS (l : Fin 3) (b : Fin 2) : ∀ a, (![l, b, 0, 0] : Fin 4 → Nat) a + S1x1x64x128.size a ≤ S3x2x64x128.size a := by
  revert l b; decide
/-- The slot `[l, b, s]` of the receive buffer is inside it. -/
theorem inbR (l : Fin 3) (b : Fin 2) (s : Fin 3) :
    ∀ a, (![l, b, s, 0, 0] : Fin 5 → Nat) a + S1x1x1x64x128.size a ≤ S3x2x3x64x128.size a := by revert l b s; decide
/-- The entry `[l, b, s]` of a semaphore array is inside it. -/
theorem inbE (l : Fin 3) (b : Fin 2) (s : Fin 3) : ∀ a, (![l, b, s] : Fin 3 → Nat) a + S1x1x1.size a ≤ S3x2x3.size a := by
  revert l b s; decide
/-- The first weight matrix of layer `l` is inside the stacked first weights. -/
theorem inbW (l : Fin 3) : ∀ a, (![l * 128, 0] : Fin 2 → Nat) a + S128x256.size a ≤ S384x256.size a := by revert l; decide
/-- The second weight matrix of layer `l` is inside the stacked rows and second weights. -/
theorem inbU (l : Fin 3) : ∀ a, (![128 + 256 * l, 0] : Fin 2 → Nat) a + S256x128.size a ≤ S896x128.size a := by revert l; decide
/-- Half `b` of the rows is inside the stacked rows and second weights. -/
theorem inbX (b : Fin 2) : ∀ a, (![b * 64, 0] : Fin 2 → Nat) a + S64x128.size a ≤ S896x128.size a := by revert b; decide
/-- Half `b` of the rows is inside the result. -/
theorem inbO (b : Fin 2) : ∀ a, (![b * 64, 0] : Fin 2 → Nat) a + S64x128.size a ≤ S128x128.size a := by revert b; decide

/-- The rectangle of the block `[l, b]` of the send buffer. -/
abbrev sR (l : Fin 3) (b : Fin 2) : Rect S3x2x64x128 := Rect.unit (s := S3x2x64x128) ![l, b, 0, 0] S1x1x64x128.size (inbS l b)
/-- The rectangle of the slot `[l, b, s]` of the receive buffer. -/
abbrev rR (l : Fin 3) (b : Fin 2) (s : Fin 3) : Rect S3x2x3x64x128 :=
  Rect.unit (s := S3x2x3x64x128) ![l, b, s, 0, 0] S1x1x1x64x128.size (inbR l b s)
/-- The rectangle of the entry `[l, b, s]` of a semaphore array. -/
abbrev eR (l : Fin 3) (b : Fin 2) (s : Fin 3) : Rect S3x2x3 := Rect.unit (s := S3x2x3) ![l, b, s] S1x1x1.size (inbE l b s)
/-- The rectangle of layer `l`'s first weight matrix. -/
abbrev wR (l : Fin 3) : Rect S384x256 := Rect.unit (s := S384x256) ![l * 128, 0] S128x256.size (inbW l)
/-- The rectangle of layer `l`'s second weight matrix. -/
abbrev uR (l : Fin 3) : Rect S896x128 := Rect.unit (s := S896x128) ![128 + 256 * l, 0] S256x128.size (inbU l)
/-- The rectangle of half `b` of the rows. -/
abbrev xR (b : Fin 2) : Rect S896x128 := Rect.unit (s := S896x128) ![b * 64, 0] S64x128.size (inbX b)
/-- The rectangle of half `b` of the result. -/
abbrev oR (b : Fin 2) : Rect S128x128 := Rect.unit (s := S128x128) ![b * 64, 0] S64x128.size (inbO b)

/-- A block of the send buffer is whole packed words, -/
theorem wordsS (l : Fin 3) (b : Fin 2) : (sR l b).WholeWords (EltTy.packing .bf16) := by revert l b; decide
/-- and whole packed rows; -/
theorem packedS (l : Fin 3) (b : Fin 2) : (sR l b).PackedRows (EltTy.packing .bf16) := by revert l b; decide
/-- a slot of the receive buffer is whole packed words. -/
theorem wordsR (l : Fin 3) (b : Fin 2) (s : Fin 3) : (rR l b s).WholeWords (EltTy.packing .bf16) := by revert l b s; decide

/-! ## Views of the buffers -/

/-- The block `[l, b]` of a send buffer, as a 64×128 matrix. -/
abbrev sV (M : Memref sig .tc .vmem S3x2x64x128 .bf16) (l : Fin 3) (b : Fin 2) : Memref sig .tc .vmem S64x128 .bf16 :=
  (M.slice (sR l b) (fun _ => rfl)).squeeze S64x128 squeezes_S1x1x64x128_S64x128
/-- The slot `[l, b, s]` of a receive buffer, as a 64×128 matrix. -/
abbrev rV (M : Memref sig .tc .vmem S3x2x3x64x128 .bf16) (l : Fin 3) (b : Fin 2) (s : Fin 3) : Memref sig .tc .vmem S64x128 .bf16 :=
  (M.slice (rR l b s) (fun _ => rfl)).squeeze S64x128 squeezes_S1x1x1x64x128_S64x128
/-- The semaphore `[l, b, s]` of an array. -/
abbrev eV (A : DmaSems sig S3x2x3) (l : Fin 3) (b : Fin 2) (s : Fin 3) : DmaSem sig :=
  ((A.slice (eR l b s)).squeeze S_ squeezes_S1x1x1_S_).sem
/-- The barrier semaphore. -/
abbrev barS : Sem sig := (SemArray.scalar (sig.barrier 0 rfl) : Sems sig S_).sem

/-! ## The arithmetic of the steps -/

/-- One layer on one half of the rows: the local product through the rectified hidden units. -/
def layerV (x : FVec F S64x128 .f32) (w : FVec F S128x256 .f32) (u : FVec F S256x128 .f32) : FVec F S64x128 .f32 :=
  matmul dot_S64x256_S256x128_S64x128_1_0_0_1_n_n none
    (maximumf
      (matmul dot_S64x128_S128x256_S64x256_1_0_0_1_n_n none x (shapeCast S128x256 w shapeCasts_S128x256_S128x256)
        (constant S64x256 .f32 0x00000000#32))
      (broadcast S64x256 (Scalar.ofBits .f32 0x00000000#32)))
    (shapeCast S256x128 u shapeCasts_S256x128_S256x128) (constant S64x128 .f32 0x00000000#32)

/-- What travels of a product: its narrowed form. -/
def wireV (p : FVec F S64x128 .f32) : FVec F S64x128 .bf16 := truncf .bf16 p bitsLt_bf16_f32

/-- One received contribution added to a sum. -/
def addV (acc : FVec F S64x128 .f32) (r : FVec F S64x128 .bf16) : FVec F S64x128 .f32 := addf acc (extf .f32 r bitsLt_bf16_f32)

/-! ## The device a send goes to -/

/-- The device the send `[l, b, j]` of device `d` goes to, as the body computes it. -/
def sendDev (d : Dev nD) : (l : Fin 3) → (b : Fin 2) → (j : Fin 3) → Dev nD
  | 0, 0, 1 => ⟨k0_dev4 d, k0_dev4_lt d⟩
  | 0, 0, 0 => ⟨k0_dev5 d, k0_dev5_lt d⟩
  | 0, 0, 2 => ⟨k0_dev6 d, k0_dev6_lt d⟩
  | 0, 1, 1 => ⟨k0_dev7 d, k0_dev7_lt d⟩
  | 0, 1, 0 => ⟨k0_dev8 d, k0_dev8_lt d⟩
  | 0, 1, 2 => ⟨k0_dev9 d, k0_dev9_lt d⟩
  | 1, 0, 1 => ⟨k0_dev10 d, k0_dev10_lt d⟩
  | 1, 0, 0 => ⟨k0_dev11 d, k0_dev11_lt d⟩
  | 1, 0, 2 => ⟨k0_dev12 d, k0_dev12_lt d⟩
  | 1, 1, 1 => ⟨k0_dev13 d, k0_dev13_lt d⟩
  | 1, 1, 0 => ⟨k0_dev14 d, k0_dev14_lt d⟩
  | 1, 1, 2 => ⟨k0_dev15 d, k0_dev15_lt d⟩
  | 2, 0, 1 => ⟨k0_dev16 d, k0_dev16_lt d⟩
  | 2, 0, 0 => ⟨k0_dev17 d, k0_dev17_lt d⟩
  | 2, 0, 2 => ⟨k0_dev18 d, k0_dev18_lt d⟩
  | 2, 1, 1 => ⟨k0_dev19 d, k0_dev19_lt d⟩
  | 2, 1, 0 => ⟨k0_dev20 d, k0_dev20_lt d⟩
  | 2, 1, 2 => ⟨k0_dev21 d, k0_dev21_lt d⟩

/-- The slot a send `j` lands in at its destination, and the destination a slot is filled from. -/
abbrev rev : Fin 3 → Fin 3 := Fin.rev

section Steps

variable (arg0 : Memref sig .tc .vmem S384x256 .f32) (arg1 : Memref sig .tc .vmem S896x128 .f32)
  (arg2 : Memref sig .tc .vmem S128x128 .f32) (arg3 : Memref sig .tc .vmem S3x2x64x128 .bf16) (harg3 : arg3.IsWhole)
  (arg4 : Memref sig .tc .vmem S3x2x3x64x128 .bf16) (harg4 : arg4.IsWhole) (arg5 arg6 : DmaSems sig S3x2x3)

/-- Send `[l, b, j]`: the block `[l, b]` to the slot `[l, b, 2 - j]` of the device `j + 1` further on. -/
def sendP (d : Dev nD) (l : Fin 3) (b : Fin 2) (j : Fin 3) : Pr F PUnit :=
  Prog.lift (.enqueueDma (sV arg3 l b) (.remote (Dev.tc (sendDev d l b j)) (rV arg4 l b (rev j)) (.dma (eV arg5 l b j)))
    (.dma (eV arg6 l b (rev j))) ((harg3.wordExact_slice rfl _ (wordsS l b)).reshape _ _)
    ((harg4.wordExact_slice rfl _ (wordsR l b (rev j))).reshape _ _) ⟨⟨rfl, Or.inl rfl⟩, trivial⟩)

/-- A product stored into the block `[l, b]` of the send buffer. -/
def storeP (l : Fin 3) (b : Fin 2) (p : FVec F S64x128 .bf16) : Pr F PUnit := do
  let _ ← Prog.lift (.load arg3 (sR l b).toLoadRect (View.loadsAt_vmem h_S1x1x64x128))
  Prog.lift (.store arg3 (sR l b) (shapeCast S1x1x64x128 p shapeCasts_S64x128_S1x1x64x128) Finset.univ
    (View.stores_vmem h_S1x1x64x128 (harg3.storeExact_slice rfl _ (packedS l b)) (fun _ => rfl)) (.inl rfl))

/-- A product stored and sent to the three other devices. -/
def blockP (d : Dev nD) (l : Fin 3) (b : Fin 2) (p : FVec F S64x128 .bf16) : Pr F PUnit := do
  storeP arg3 harg3 l b p
  sendP arg3 harg3 arg4 harg4 arg5 arg6 d l b 1
  sendP arg3 harg3 arg4 harg4 arg5 arg6 d l b 0
  sendP arg3 harg3 arg4 harg4 arg5 arg6 d l b 2

/-- One contribution received into the slot `[l, b, s]`, and read. -/
def recvP (l : Fin 3) (b : Fin 2) (s : Fin 3) : Pr F (FVec F S64x128 .bf16) := do
  Prog.lift (.waitDma2 (eV arg6 l b s) (sV arg3 l b) (rV arg4 l b s) ((harg3.wordExact_slice rfl _ (wordsS l b)).reshape _ _)
    ((harg4.wordExact_slice rfl _ (wordsR l b s)).reshape _ _))
  let v : Vec F S1x1x1x64x128 .bf16 ←
    Prog.lift (.load arg4 (rR l b s).toLoadRect (View.loadsAt_vmem h_S1x1x1x64x128))
  pure (shapeCast S64x128 v shapeCasts_S1x1x1x64x128_S64x128)

/-- The sum over the devices of the products of `[l, b]`: the own one and the three received. -/
def gatherP (l : Fin 3) (b : Fin 2) (p : FVec F S64x128 .f32) : Pr F (FVec F S64x128 .f32) := do
  let r0 ← recvP arg3 harg3 arg4 harg4 arg6 l b 0
  let r2 ← recvP arg3 harg3 arg4 harg4 arg6 l b 2
  let r1 ← recvP arg3 harg3 arg4 harg4 arg6 l b 1
  pure (addV (addV (addV p r0) r2) r1)

/-- A layer on given rows: the weights read, the product. -/
def layerP (l : Fin 3) (x : FVec F S64x128 .f32) : Pr F (FVec F S64x128 .f32) := do
  let w : Vec F S128x256 .f32 ← Prog.lift (.load arg0 (wR l).toLoadRect (View.loadsAt_vmem h_S128x256))
  let u : Vec F S256x128 .f32 ← Prog.lift (.load arg1 (uR l).toLoadRect (View.loadsAt_vmem h_S256x128))
  pure (layerV x w u)

/-- The first layer on half `b` of the rows, its product stored and sent. -/
def firstP (d : Dev nD) (b : Fin 2) : Pr F (FVec F S64x128 .f32) := do
  let x : Vec F S64x128 .f32 ← Prog.lift (.load arg1 (xR b).toLoadRect (View.loadsAt_vmem h_S64x128))
  let p ← layerP arg0 arg1 0 (shapeCast S64x128 x shapeCasts_S64x128_S64x128)
  blockP arg3 harg3 arg4 harg4 arg5 arg6 d 0 b (wireV p)
  pure p

/-- A later layer on half `b` of the rows: the products of the layer before gathered, the new product stored and sent. -/
def nextP (d : Dev nD) (l l' : Fin 3) (b : Fin 2) (p : FVec F S64x128 .f32) : Pr F (FVec F S64x128 .f32) := do
  let x ← gatherP arg3 harg3 arg4 harg4 arg6 l b p
  let p ← layerP arg0 arg1 l' x
  blockP arg3 harg3 arg4 harg4 arg5 arg6 d l' b (wireV p)
  pure p

/-- Half `b` of the result: the last products gathered and stored. -/
def outP (b : Fin 2) (p : FVec F S64x128 .f32) : Pr F PUnit := do
  let x ← gatherP arg3 harg3 arg4 harg4 arg6 2 b p
  let _ ← Prog.lift (.load arg2 (oR b).toLoadRect (View.loadsAt_vmem h_S64x128))
  Prog.lift (.store arg2 (oR b) x Finset.univ (View.stores_vmem_bits_univ h_S64x128 rfl) (.inl rfl))

/-- The wait for the send `[l, b, j]` to have left. -/
def sentP (l : Fin 3) (b : Fin 2) (j : Fin 3) : Pr F PUnit :=
  Prog.lift (.waitDma2 (eV arg5 l b j) (rV arg4 l b (rev j)) (sV arg3 l b)
    ((harg4.wordExact_slice rfl _ (wordsR l b (rev j))).reshape _ _) ((harg3.wordExact_slice rfl _ (wordsS l b)).reshape _ _))

/-- The waits for the three sends of the block `[l, b]`. -/
def sentsP (l : Fin 3) (b : Fin 2) : Pr F PUnit := do
  sentP arg3 harg3 arg4 harg4 arg5 l b 1
  sentP arg3 harg3 arg4 harg4 arg5 l b 0
  sentP arg3 harg3 arg4 harg4 arg5 l b 2

/-- The handshake: one signal to each other device, then the three received ones awaited. -/
def barrierP (d : Dev nD) : Pr F PUnit := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semWaitWord barS 3#32

/-- The whole body in steps. -/
def bodyP : Pr F PUnit := do
  let d : Dev nD ← Prog.lift .deviceId
  barrierP d
  let p0 ← firstP arg0 arg1 arg3 harg3 arg4 harg4 arg5 arg6 d 0
  let p1 ← firstP arg0 arg1 arg3 harg3 arg4 harg4 arg5 arg6 d 1
  let p0 ← nextP arg0 arg1 arg3 harg3 arg4 harg4 arg5 arg6 d 0 1 0 p0
  let p1 ← nextP arg0 arg1 arg3 harg3 arg4 harg4 arg5 arg6 d 0 1 1 p1
  let p0 ← nextP arg0 arg1 arg3 harg3 arg4 harg4 arg5 arg6 d 1 2 0 p0
  let p1 ← nextP arg0 arg1 arg3 harg3 arg4 harg4 arg5 arg6 d 1 2 1 p1
  outP arg2 arg3 harg3 arg4 harg4 arg6 0 p0
  outP arg2 arg3 harg3 arg4 harg4 arg6 1 p1
  sentsP arg3 harg3 arg4 harg4 arg5 0 0
  sentsP arg3 harg3 arg4 harg4 arg5 0 1
  sentsP arg3 harg3 arg4 harg4 arg5 1 0
  sentsP arg3 harg3 arg4 harg4 arg5 1 1
  sentsP arg3 harg3 arg4 harg4 arg5 2 0
  sentsP arg3 harg3 arg4 harg4 arg5 2 1

end Steps

set_option maxRecDepth 65536 in
/-- The printed body is the composition of the steps. -/
theorem body_eq (arg0 : Memref sig .tc .vmem S384x256 .f32) (h0 : arg0.IsWhole) (arg1 : Memref sig .tc .vmem S896x128 .f32) (h1 : arg1.IsWhole)
    (arg2 : Memref sig .tc .vmem S128x128 .f32) (h2 : arg2.IsWhole) (arg3 : Memref sig .tc .vmem S3x2x64x128 .bf16) (h3 : arg3.IsWhole)
    (arg4 : Memref sig .tc .vmem S3x2x3x64x128 .bf16) (h4 : arg4.IsWhole) (arg5 arg6 : DmaSems sig S3x2x3) :
    cc0_body (F := F) arg0 h0 arg1 h1 arg2 h2 arg3 h3 arg4 h4 arg5 arg6 = bodyP arg0 arg1 arg2 arg3 h3 arg4 h4 arg5 arg6 := rfl

end Cert.KernelIdeal.Ring

end
-- ==== Proof.KernelIdeal.Protocol.lean ====
/-
# The protocol between the four devices

Device `c` sends every product to the three other devices `peer c 0`, `peer c 1`, `peer c 2`; the copy of the send `j`
lands in the slot `rev j` of `peer c j`, so that the slot `s` of a device is filled by its `peer c s`. Every semaphore
is used for one round: the barrier semaphore for three units, every other for one copy.

- A signal on a device's barrier semaphore hands it the slots it is to fill on the signalling device.
- The end of a copy hands the sender its share of the block sent back, the receiver its slot with the product in it.
-/
module

public import proofs.«01_k».proof.Proof.KernelIdeal.Steps
public import proofs.«01_k».proof.Proof.Gen.KernelIdeal.Launch
public import Idealize.ShloMosaic.Lib.Pipeline.TalkSites
public import Idealize.ShloMosaic.Lib.Pipeline.Kit
public import Idealize.ShloMosaic.Lib.Rounds

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)

variable {F : FTy → Type} [FloatOps F]

/-! ## The devices -/

/-- The device `j + 1` further on around the ring. -/
def peer (c : Dev nD) (j : Fin 3) : Dev nD := ⟨(c.val + j.val + 1) % 4, Nat.mod_lt _ (by decide)⟩

/-- A device is the peer `rev j` of its own peer `j`. -/
theorem peer_rev (c : Dev nD) (j : Fin 3) : peer (peer c j) (rev j) = c := by revert c j; decide

/-- Reversing a slot twice is the slot. -/
theorem rev_rev (j : Fin 3) : rev (rev j) = j := Fin.rev_rev j

/-- The device a send goes to, as the body computes it, is the peer. -/
theorem sendDev_eq (d : Dev nD) (l : Fin 3) (b : Fin 2) (j : Fin 3) : sendDev d l b j = peer d j := by
  revert d l b j; decide

/-- The device each signal goes to, as the body computes it, is the peer. -/
theorem sigDev_eq (d : Dev nD) : (⟨k0_dev1 d, k0_dev1_lt d⟩ : Dev nD) = peer d 0 ∧ (⟨k0_dev2 d, k0_dev2_lt d⟩ : Dev nD) = peer d 1
    ∧ (⟨k0_dev3 d, k0_dev3_lt d⟩ : Dev nD) = peer d 2 := by revert d; decide

/-! ## The semaphores -/

/-- The semaphore the send `[l, b, j]` completes on at its sender, -/
abbrev sendSem (l : Fin 3) (b : Fin 2) (j : Fin 3) : DmaSem sig := eV cc0_scratch2 l b j
/-- and the one the slot `[l, b, s]` is completed on at its receiver. -/
abbrev recvSem (l : Fin 3) (b : Fin 2) (s : Fin 3) : DmaSem sig := eV cc0_scratch3 l b s

/-- What a semaphore is for. -/
inductive Kd where
  | other
  | bar
  | send (l : Fin 3) (b : Fin 2) (j : Fin 3)
  | recv (l : Fin 3) (b : Fin 2) (s : Fin 3)
  deriving DecidableEq

/-- The position of a semaphore in its array read as layer, half and slot. -/
def kindOf : SemLoc sig → Kd
  | .reg _ => .bar
  | .dma q =>
    if q.val < 3 then .other
    else if q.val < 21 then .send (Fin.ofNat 3 ((q.val - 3) / 6)) (Fin.ofNat 2 ((q.val - 3) / 3)) (Fin.ofNat 3 (q.val - 3))
    else .recv (Fin.ofNat 3 ((q.val - 21) / 6)) (Fin.ofNat 2 ((q.val - 21) / 3)) (Fin.ofNat 3 (q.val - 21))

theorem kind_bar : kindOf (.reg barS) = .bar := rfl
theorem kind_send (l : Fin 3) (b : Fin 2) (j : Fin 3) : kindOf (.dma (sendSem l b j)) = .send l b j := by revert l b j; decide
theorem kind_recv (l : Fin 3) (b : Fin 2) (s : Fin 3) : kindOf (.dma (recvSem l b s)) = .recv l b s := by revert l b s; decide

/-- A device's barrier cell, -/
abbrev barCell (c : Dev nD) : GSem nD τ sig := ((c : Thread nD τ), .reg barS)
/-- its cell of the send `[l, b, j]`, -/
abbrev sendCell (c : Dev nD) (l : Fin 3) (b : Fin 2) (j : Fin 3) : GSem nD τ sig := ((c : Thread nD τ), .dma (sendSem l b j))
/-- and its cell of the slot `[l, b, s]`. -/
abbrev recvCell (c : Dev nD) (l : Fin 3) (b : Fin 2) (s : Fin 3) : GSem nD τ sig := ((c : Thread nD τ), .dma (recvSem l b s))

/-! ## The resources -/

/-- The ghost state: the staging's and the protocol's. -/
abbrev UU : Type := UR sig nD τ × URounds (GSem nD τ sig) (Fin 3)

local notation "𝕄" => MT nD τ sig ℕ (Elt F) ℕ UU ℕ

abbrev EP : Emb (UR sig nD τ) (MT nD τ sig ℕ (Elt F) ℕ UU ℕ) := embL
@[inherit_doc EP] abbrev ER : Emb (URounds (GSem nD τ sig) (Fin 3)) (MT nD τ sig ℕ (Elt F) ℕ UU ℕ) := embR

/-- The send buffer and the receive buffer. -/
abbrev sM : Memref sig .tc .vmem S3x2x64x128 .bf16 := Memref.whole cc0_scratch0
@[inherit_doc sM] abbrev rM : Memref sig .tc .vmem S3x2x3x64x128 .bf16 := Memref.whole cc0_scratch1

/-- The units of one copy. -/
def N : ℕ := (rV rM 0 0 0).view.dmaCredit
theorem N_pos : 0 < N := View.dmaCredit_pos _ (by decide)
theorem credit_recv (l : Fin 3) (b : Fin 2) (s : Fin 3) : (rV rM l b s).view.dmaCredit = N := rfl
theorem credit_send (l : Fin 3) (b : Fin 2) : (sV sM l b).view.dmaCredit = N := rfl

/-- The share of a block that each of its three sends takes. -/
def shr : Fin 3 → PosShare TreeShare
  | 0 => fullShare.left
  | 1 => fullShare.right.left
  | 2 => fullShare.right.right

/-- Device `c`'s block `[l, b]` of the send buffer holds `X`, at a share. -/
abbrev sOwn (q : PosShare TreeShare) (c : Dev nD) (l : Fin 3) (b : Fin 2) (X : FVec F S64x128 .bf16) : sProp 𝕄 :=
  owns (c : Thread nD τ) (sV sM l b) q X
/-- Device `c`'s slot `[l, b, s]` of the receive buffer holds `X`. -/
abbrev rOwn (c : Dev nD) (l : Fin 3) (b : Fin 2) (s : Fin 3) (X : FVec F S64x128 .bf16) : sProp 𝕄 :=
  owns (c : Thread nD τ) (rV rM l b s) fullShare X

/-- The slot that device `c`'s send `[l, b, j]` goes to, free, its cell at the round the copy is to complete. -/
def dest (c : Dev nD) (l : Fin 3) (b : Fin 2) (j : Fin 3) : sProp 𝕄 :=
  iprop((∃ X, rOwn (peer c j) l b (rev j) X) ∗ reached ER (recvCell (peer c j) l b (rev j)) 0)

/-- All the slots that device `c`'s sends `j` go to. -/
def dests (c : Dev nD) (j : Fin 3) : sProp 𝕄 :=
  bigSep Finset.univ fun p : Fin 3 × Fin 2 => dest c p.1 p.2 j

instance dest_storable (c : Dev nD) (l : Fin 3) (b : Fin 2) (j : Fin 3) : BI.Storable (upEmb : UEmb _ 𝕄) (dest (F := F) c l b j) := by
  unfold dest; infer_instance

instance dests_storable (c : Dev nD) (j : Fin 3) : BI.Storable (upEmb : UEmb _ 𝕄) (dests (F := F) c j) := by
  unfold dests; infer_instance

/-- What a payment hands over, by the kind of the semaphore. `W l b c` is what device `c` sends of its product `[l, b]`. -/
def payOf (W : Fin 3 → Fin 2 → Dev nD → FVec F S64x128 .bf16) (c : Dev nD) : Kd → Fin 3 → sProp 𝕄
  | .other, _ => iprop(emp)
  | .bar, j => dests c j
  | .send l b j, _ => sOwn (shr j) c l b (W l b c)
  | .recv l b s, _ => rOwn c l b s (W l b (peer c s))

instance payOf_storable (W : Fin 3 → Fin 2 → Dev nD → FVec F S64x128 .bf16) (c : Dev nD) (k : Kd) (j : Fin 3) :
    BI.Storable (upEmb : UEmb _ 𝕄) (payOf W c k j) := by
  cases k <;> (unfold payOf; infer_instance)

/-- The duties of a kind of semaphore, -/
def dutyOf : Kd → Finset (Fin 3)
  | .other => ∅
  | .bar => Finset.univ
  | .send .. => {0}
  | .recv .. => {0}

/-- and the units of each. -/
def amountOf : Kd → ℕ
  | .bar => 1
  | _ => N

/-- The schedule: one round on every cell, its duties by the kind of the semaphore. -/
def rd (W : Fin 3 → Fin 2 → Dev nD → FVec F S64x128 .bf16) : Rounds.Schedule (GSem nD τ sig) (Fin 3) 𝕄 where
  duties g r := if r = 0 then dutyOf (kindOf g.2) else ∅
  unitless _ := False
  amount g _ _ := amountOf (kindOf g.2)
  payload g _ d := payOf W g.1.1 (kindOf g.2) d
  amount_pos g _ _ _ := by
    cases kindOf g.2
    · exact N_pos
    · exact Nat.one_pos
    · exact N_pos
    · exact N_pos

section Sched

variable (W : Fin 3 → Fin 2 → Dev nD → FVec F S64x128 .bf16)

instance rd_payload_storable (g : GSem nD τ sig) (r : ℕ) (d : Fin 3) : BI.Storable (upEmb : UEmb _ 𝕄) ((rd W).payload g r d) :=
  payOf_storable W g.1.1 (kindOf g.2) d

variable (c : Dev nD) (l : Fin 3) (b : Fin 2) (j : Fin 3)

theorem duties_bar : (rd W).duties (barCell c) 0 = Finset.univ := rfl
theorem duties_send : (rd W).duties (sendCell c l b j) 0 = {0} := by
  show dutyOf (kindOf (.dma (sendSem l b j))) = _; rw [kind_send]; rfl
theorem duties_recv : (rd W).duties (recvCell c l b j) 0 = {0} := by
  show dutyOf (kindOf (.dma (recvSem l b j))) = _; rw [kind_recv]; rfl
theorem duties_later (g : GSem nD τ sig) (r : ℕ) (hr : 1 ≤ r) : (rd W).duties g r = ∅ := if_neg (by omega)

theorem amount_bar (d : Fin 3) : (rd W).amount (barCell c) 0 d = 1 := rfl
theorem amount_send (d : Fin 3) : (rd W).amount (sendCell c l b j) 0 d = N := by
  show amountOf (kindOf (.dma (sendSem l b j))) = _; rw [kind_send]; rfl
theorem amount_recv (d : Fin 3) : (rd W).amount (recvCell c l b j) 0 d = N := by
  show amountOf (kindOf (.dma (recvSem l b j))) = _; rw [kind_recv]; rfl

theorem expect_bar : (rd W).expect (barCell c) 0 = 3 := rfl
theorem expect_send : (rd W).expect (sendCell c l b j) 0 = N := by
  unfold Schedule.expect Schedule.amountOf; rw [duties_send, Finset.sum_singleton, amount_send]
theorem expect_recv : (rd W).expect (recvCell c l b j) 0 = N := by
  unfold Schedule.expect Schedule.amountOf; rw [duties_recv, Finset.sum_singleton, amount_recv]

theorem payload_bar (d : Fin 3) : (rd W).payload (barCell c) 0 d = dests c d := rfl
theorem payload_send (d : Fin 3) : (rd W).payload (sendCell c l b j) 0 d = sOwn (shr j) c l b (W l b c) := by
  show payOf W c (kindOf (.dma (sendSem l b j))) d = _; rw [kind_send]; rfl
theorem payload_recv (d : Fin 3) : (rd W).payload (recvCell c l b j) 0 d = rOwn c l b j (W l b (peer c j)) := by
  show payOf W c (kindOf (.dma (recvSem l b j))) d = _; rw [kind_recv]; rfl

theorem rest_bar : bigSep ((rd W).duties (barCell c) 0 \ ∅) (fun d => (rd W).payload (barCell c) 0 d)
    = iprop(dests c 0 ∗ dests c 1 ∗ dests c 2) := by
  rw [Finset.sdiff_empty, duties_bar, bigSep_W0]; rfl
theorem rest_send : bigSep ((rd W).duties (sendCell c l b j) 0 \ ∅) (fun d => (rd W).payload (sendCell c l b j) 0 d)
    = sOwn (shr j) c l b (W l b c) := by
  rw [Finset.sdiff_empty, duties_send, bigSep_singleton, payload_send]
theorem rest_recv : bigSep ((rd W).duties (recvCell c l b j) 0 \ ∅) (fun d => (rd W).payload (recvCell c l b j) 0 d)
    = rOwn c l b j (W l b (peer c j)) := by
  rw [Finset.sdiff_empty, duties_recv, bigSep_singleton, payload_recv]

end Sched

/-! ## What a device owes -/

/-- The number of levels: the staging's, the barrier's, one for each block. -/
abbrev nLv : ℕ := 8
/-- The level of a block's receives. -/
def lvl (l : Fin 3) (b : Fin 2) : ℕ := 2 + 2 * l.val + b.val

/-- What device `c` owes for the send `[l, b, j]`. -/
abbrev sendDue (c : Dev nD) (l : Fin 3) (b : Fin 2) (j : Fin 3) : Pay nD τ sig := (recvCell (peer c j) l b (rev j), lvl l b, N)

/-- What device `c` owes for the block `[l, b]`, in the order of its sends. -/
def blockDue (c : Dev nD) (p : Fin 3 × Fin 2) : List (Pay nD τ sig) := [sendDue c p.1 p.2 1, sendDue c p.1 p.2 0, sendDue c p.1 p.2 2]

/-- What device `c` owes for a list of blocks. -/
def blocksDue (c : Dev nD) (ps : List (Fin 3 × Fin 2)) : List (Pay nD τ sig) := ps.flatMap (blockDue c)

/-- The blocks in the order they are sent. -/
abbrev order : List (Fin 3 × Fin 2) := [(0, 0), (0, 1), (1, 0), (1, 1), (2, 0), (2, 1)]

/-- What device `c` owes for its signals, -/
abbrev sigDue (c : Dev nD) (i : Fin 3) : Pay nD τ sig := (barCell (peer c i), 1, 1)

/-- and what it owes in all, in the order it pays. -/
def due (c : Dev nD) : List (Pay nD τ sig) := sigDue c 0 :: sigDue c 1 :: sigDue c 2 :: blocksDue c order

theorem blocksDue_cons (c : Dev nD) (p : Fin 3 × Fin 2) (ps : List (Fin 3 × Fin 2)) :
    blocksDue c (p :: ps) = sendDue c p.1 p.2 1 :: sendDue c p.1 p.2 0 :: sendDue c p.1 p.2 2 :: blocksDue c ps := rfl

/-- What is owed for a list of blocks lies on other TensorCores at the levels of those blocks. -/
theorem mem_blocksDue {c : Dev nD} {ps : List (Fin 3 × Fin 2)} {x : Pay nD τ sig} (h : x ∈ blocksDue c ps) :
    x.1.1.2 = .tc ∧ ∃ p ∈ ps, x.2.1 = lvl p.1 p.2 := by
  obtain ⟨p, hp, hx⟩ := List.mem_flatMap.mp h
  simp only [blockDue, List.mem_cons, List.not_mem_nil, or_false] at hx
  rcases hx with rfl | rfl | rfl <;> exact ⟨rfl, p, hp, rfl⟩

theorem lvl_lt (l : Fin 3) (b : Fin 2) : lvl l b < nLv := by revert l b; decide

/-- A wait at a level below those of the blocks still owed for may go on. -/
theorem mayWait (c : Dev nD) (sm : SemLoc sig) (i : ℕ) (hi : i < nLv) (ps : List (Fin 3 × Fin 2)) (h : ∀ p ∈ ps, i < lvl p.1 p.2) :
    (levAts (SiteBlocks.L nLv) SiteBlocks.lv : sProp 𝕄) ⊢ MayWait (c : Thread nD τ) sm i (tallyL (blocksDue c ps)) :=
  SiteBlocks.mayWait_of hi c sm _ fun g k hg => by
    obtain ⟨x, hx, rfl, rfl⟩ := TalkSites.tallyL_pos hg
    obtain ⟨h1, p, hp, h2⟩ := mem_blocksDue hx
    exact ⟨SiteBlocks.mem_L' h1 (by rw [h2]; exact lvl_lt _ _), by rw [h2]; exact h p hp⟩

/-! ## The cells and tokens of the launch -/

/-- The places of the semaphores: block, sent or received, slot. -/
abbrev K : Type := (Fin 3 × Fin 2) × (Fin 2 × Fin 3)

/-- The kernel's own semaphores. -/
def osem (k : K) : SemLoc sig := if k.2.1 = 0 then .dma (sendSem k.1.1 k.1.2 k.2.2) else .dma (recvSem k.1.1 k.1.2 k.2.2)

theorem osem_send (p : Fin 3 × Fin 2) (j : Fin 3) : osem (p, 0, j) = .dma (sendSem p.1 p.2 j) := if_pos rfl
theorem osem_recv (p : Fin 3 × Fin 2) (s : Fin 3) : osem (p, 1, s) = .dma (recvSem p.1 p.2 s) := if_neg (by decide : ¬ (1 : Fin 2) = 0)

theorem osem_kind (k : K) : kindOf (osem k) = if k.2.1 = 0 then .send k.1.1 k.1.2 k.2.2 else .recv k.1.1 k.1.2 k.2.2 := by
  unfold osem; split
  · exact kind_send ..
  · exact kind_recv ..

theorem osem_inj : Function.Injective osem := fun k k' h => by
  have e := (osem_kind k).symm.trans ((congrArg kindOf h).trans (osem_kind k'))
  revert e; clear h; revert k k'; decide

/-- A payment of device `c`: to a peer's barrier, to its own send cell, to a peer's receive cell. -/
def tokOf (c : Dev nD) : Fin 3 ⊕ K → GSem nD τ sig × ℕ × Fin 3
  | .inl i => (barCell (peer c i), 0, rev i)
  | .inr (p, d, j) => if d = 0 then (sendCell c p.1 p.2 j, 0, 0) else (recvCell (peer c j) p.1 p.2 (rev j), 0, 0)

/-- The device that makes a payment, -/
def payer (x : GSem nD τ sig × ℕ × Fin 3) : Dev nD :=
  match kindOf x.1.2 with
  | .other => x.1.1.1
  | .bar => peer x.1.1.1 x.2.2
  | .send _ _ _ => x.1.1.1
  | .recv _ _ s => peer x.1.1.1 s

/-- and which of its payments it is. -/
def payIx (x : GSem nD τ sig × ℕ × Fin 3) : Fin 3 ⊕ K :=
  match kindOf x.1.2 with
  | .other => .inl 0
  | .bar => .inl (rev x.2.2)
  | .send l b j => .inr ((l, b), 0, j)
  | .recv l b s => .inr ((l, b), 1, rev s)

theorem payer_tokOf (c : Dev nD) (t : Fin 3 ⊕ K) : payer (tokOf c t) = c := by
  rcases t with i | ⟨⟨l, b⟩, d, j⟩
  · exact peer_rev c i
  · fin_cases d
    · show (match kindOf (.dma (sendSem l b j)) with
        | .other => c | .bar => peer c 0 | .send _ _ _ => c | .recv _ _ s => peer c s) = c
      rw [kind_send]
    · show (match kindOf (.dma (recvSem l b (rev j))) with
        | .other => peer c j | .bar => peer (peer c j) 0 | .send _ _ _ => peer c j | .recv _ _ s => peer (peer c j) s) = c
      rw [kind_recv]; exact peer_rev c j

theorem payIx_tokOf (c : Dev nD) (t : Fin 3 ⊕ K) : payIx (tokOf c t) = t := by
  rcases t with i | ⟨⟨l, b⟩, d, j⟩
  · exact congrArg Sum.inl (rev_rev i)
  · fin_cases d
    · show (match kindOf (.dma (sendSem l b j)) with
        | .other => Sum.inl 0 | .bar => .inl (rev 0) | .send l b j => .inr ((l, b), 0, j) | .recv l b s => .inr ((l, b), 1, rev s))
        = (Sum.inr ((l, b), 0, j) : Fin 3 ⊕ K)
      rw [kind_send]
    · show (match kindOf (.dma (recvSem l b (rev j))) with
        | .other => Sum.inl 0 | .bar => .inl (rev 0) | .send l b j => .inr ((l, b), 0, j) | .recv l b s => .inr ((l, b), 1, rev s))
        = (Sum.inr ((l, b), 1, j) : Fin 3 ⊕ K)
      rw [kind_recv]; exact congrArg (fun s => (Sum.inr ((l, b), 1, s) : Fin 3 ⊕ K)) (rev_rev j)

theorem tokOf_inj (c : Dev nD) : Function.Injective (tokOf c) := fun t t' h => by
  rw [← payIx_tokOf c t, h, payIx_tokOf c t']

/-- The launch's cells and tokens: the barrier, the kernel's own semaphores, the payments of every device. -/
def fam : Fam nD τ sig (Fin 3) 1 where
  bar := .reg barS
  dorm _ := Finset.univ.map ⟨osem, osem_inj⟩
  toks c _ := Finset.univ.map ⟨tokOf c, tokOf_inj c⟩
  semKey _ := 0
  hsem _ _ _ := Subsingleton.elim _ _
  hbar _ h := by
    obtain ⟨k, -, hk⟩ := Finset.mem_map.mp h
    have e := (osem_kind k).symm.trans (congrArg kindOf (hk : osem k = .reg barS))
    rw [kind_bar] at e
    split at e <;> exact absurd e (by simp)
  tokKey x := (payer x, 0)
  htok c j x hx := by
    obtain ⟨t, -, rfl⟩ := Finset.mem_map.mp hx
    exact Prod.ext (payer_tokOf c t) (Subsingleton.elim _ _)

end Cert.KernelIdeal.Ring

end
-- ==== Proof.KernelIdeal.Run.lean ====
/-
# The run of the steps

What each step needs and what it leaves, once at a symbolic device, layer, half and slot; then the whole body by the
steps in order. Every statement takes the continuation's demand as its last premise.
-/
module

public import proofs.«01_k».proof.Proof.KernelIdeal.Protocol
public import Idealize.ShloMosaic.Lib.Pipeline.FrameBody
public import Idealize.ShloMosaic.Lib.Tactic
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open scoped Idealize.SL.RA.PCS
open Idealize.ShloMosaic.TalkSites (Pay tallyL Fam)
open Idealize.ShloMosaic.View (ld)

variable {F : FTy → Type} [FloatOps F]

local notation "𝕄" => MT nD τ sig ℕ (Elt F) ℕ UU ℕ

abbrev 𝒱₀ : Variants := Variants.none

variable (W : Fin 3 → Fin 2 → Dev nD → FVec F S64x128 .bf16) (κ : GSem nD τ sig → ℕ)

/-- Every cell of the protocol under its invariant. -/
abbrev invs : sProp 𝕄 := fam.cellInvs ER (rd W) κ

theorem inv_bar (c : Dev nD) : invs W κ ⊢ cellInv ER (rd W) (κ (barCell c)) (barCell c) := fam.cellInvs_bar ER (rd W) κ c
theorem inv_send (c : Dev nD) (l : Fin 3) (b : Fin 2) (j : Fin 3) :
    invs W κ ⊢ cellInv ER (rd W) (κ (sendCell c l b j)) (sendCell c l b j) :=
  fam.cellInvs_dorm ER (rd W) κ c (j := 0) (Finset.mem_map.mpr ⟨((l, b), 0, j), Finset.mem_univ _, osem_send (l, b) j⟩)
theorem inv_recv (c : Dev nD) (l : Fin 3) (b : Fin 2) (s : Fin 3) :
    invs W κ ⊢ cellInv ER (rd W) (κ (recvCell c l b s)) (recvCell c l b s) :=
  fam.cellInvs_dorm ER (rd W) κ c (j := 0) (Finset.mem_map.mpr ⟨((l, b), 1, s), Finset.mem_univ _, osem_recv (l, b) s⟩)

/-- A cell whose one round is over gives its counter back at zero. -/
theorem close (g : GSem nD τ sig) : iprop(cellInv ER (rd W) (κ g) g ∗ atPos ER g (0 + 1) ∅ 0) ⊢ (|={Set.univ}=> semVal g 0 : sProp 𝕄) :=
  Rounds.cell_close ER (rd W) (Set.mem_univ _) id (duties_later W g)

/-- What device `c` owes, its waits so far not recorded. -/
abbrev owing (c : Dev nD) (l : List (Pay nD τ sig)) : sProp 𝕄 := iprop(∃ V, owes (c : Thread nD τ) (tallyL l) V)

/-! ## Sends -/

/-- The tokens of the send `[l, b, j]`. -/
def sendTok (c : Dev nD) (l : Fin 3) (b : Fin 2) (j : Fin 3) : sProp 𝕄 :=
  iprop(dutyTok ER (sendCell c l b j) 0 0 ∗ reached ER (sendCell c l b j) 0 ∗ dutyTok ER (recvCell (peer c j) l b (rev j)) 0 0)

/-- The steps on the kernel's own buffers. -/
abbrev sendC (c : Dev nD) (l : Fin 3) (b : Fin 2) (j : Fin 3) : Pr F PUnit :=
  sendP sM (Memref.isWhole_whole _) rM (Memref.isWhole_whole _) cc0_scratch2 cc0_scratch3 c l b j
@[inherit_doc sendC] abbrev storeC (l : Fin 3) (b : Fin 2) (p : FVec F S64x128 .bf16) : Pr F PUnit := storeP sM (Memref.isWhole_whole _) l b p
@[inherit_doc sendC] abbrev blockC (c : Dev nD) (l : Fin 3) (b : Fin 2) (p : FVec F S64x128 .bf16) : Pr F PUnit :=
  blockP sM (Memref.isWhole_whole _) rM (Memref.isWhole_whole _) cc0_scratch2 cc0_scratch3 c l b p
@[inherit_doc sendC] abbrev recvC (l : Fin 3) (b : Fin 2) (s : Fin 3) : Pr F (FVec F S64x128 .bf16) :=
  recvP sM (Memref.isWhole_whole _) rM (Memref.isWhole_whole _) cc0_scratch3 l b s
@[inherit_doc sendC] abbrev gatherC (l : Fin 3) (b : Fin 2) (p : FVec F S64x128 .f32) : Pr F (FVec F S64x128 .f32) :=
  gatherP sM (Memref.isWhole_whole _) rM (Memref.isWhole_whole _) cc0_scratch3 l b p
@[inherit_doc sendC] abbrev sentC (l : Fin 3) (b : Fin 2) (j : Fin 3) : Pr F PUnit :=
  sentP sM (Memref.isWhole_whole _) rM (Memref.isWhole_whole _) cc0_scratch2 l b j
@[inherit_doc sendC] abbrev sentsC (l : Fin 3) (b : Fin 2) : Pr F PUnit :=
  sentsP sM (Memref.isWhole_whole _) rM (Memref.isWhole_whole _) cc0_scratch2 l b

/-- The send `[l, b, j]` to a device `e`. -/
def sendTo (e : Dev nD) (l : Fin 3) (b : Fin 2) (j : Fin 3) : Pr F PUnit :=
  Prog.lift (.enqueueDma (sV sM l b) (.remote (Dev.tc e) (rV rM l b (rev j)) (.dma (sendSem l b j)))
    (.dma (recvSem l b (rev j))) (((Memref.isWhole_whole cc0_scratch0).wordExact_slice rfl _ (wordsS l b)).reshape _ _)
    (((Memref.isWhole_whole cc0_scratch1).wordExact_slice rfl _ (wordsR l b (rev j))).reshape _ _) ⟨⟨rfl, Or.inl rfl⟩, trivial⟩)

theorem sendC_eq (c : Dev nD) (l : Fin 3) (b : Fin 2) (j : Fin 3) : sendC (F := F) c l b j = sendTo (peer c j) l b j := by
  rw [← sendDev_eq c l b j]; rfl

/-- One send: the share of the block and the free slot go, the right to wait for the send's end comes. -/
theorem sendRun (c : Dev nD) (l : Fin 3) (b : Fin 2) (j : Fin 3) (rest : List (Pay nD τ sig)) (Kt : PUnit → sProp 𝕄) :
    iprop(invs W κ ∗ sOwn (shr j) c l b (W l b c) ∗ sendTok c l b j ∗ dest c l b j ∗ owing c (sendDue c l b j :: rest)
        ∗ ((cred (tallyAt (sendCell c l b j) 0 N) ∗ owing c rest) -∗ Kt ⟨⟩))
      ⊢ wp frame (wpE (defs₀ (F := F)) 𝒱₀ (c : Thread nD τ) none) Set.univ (sendC c l b j) Kt := by
  rw [sendC_eq]
  unfold sendTo sendTok dest owing Prog.lift sOwn rOwn owns
  iintro ⟨#HI, ⟨%f, %hf, Hs⟩, ⟨Ht1, #Hr1, Ht2⟩, ⟨⟨%X, %g, %hg, Hd⟩, #Hr2⟩, ⟨%V, HO⟩, Hk⟩
  iapply (Rounds.wp_send_pointsTo 𝒱₀ ER (rd W) (c : Thread nD τ) none (c' := (peer c j : Thread nD τ)) (src := sV sM l b) (dst := rV rM l b (rev j))
      (sS := .dma (sendSem l b j)) (sem := .dma (recvSem l b (rev j))) (q := shr j) (fs := f) (κ₁ := κ (sendCell c l b j)) (κ₂ := κ (recvCell (peer c j) l b (rev j)))
      (r₁ := 0) (r₂ := 0) (d₁ := 0) (d₂ := 0) (fd := g)
      (by rw [duties_send]; exact Finset.mem_singleton_self _) (by rw [duties_recv]; exact Finset.mem_singleton_self _)
      (lvl l b) 0 N rfl (amount_send W c l b j 0) (amount_recv W (peer c j) l b (rev j) 0) (O₀ := tallyL (sendDue c l b j :: rest)) (tallyL rest) (add_comm _ _) (W := V)
      (by
        rw [payload_send]; unfold sOwn owns; iintro H; iexists f; isplitr
        · ipureintro; exact hf
        iexact H)
      (by
        rw [payload_recv, peer_rev]; unfold rOwn owns; iintro H; iexists _; isplitr
        rotate_left
        · iexact H
        ipureintro; rw [View.read_write_univ]; exact hf)) $$ [Hs Hd HO Ht1 Ht2]
  · isplitr; · iapply (inv_send W κ c l b j); iexact HI
    isplitr; · iapply (inv_recv W κ (peer c j) l b (rev j)); iexact HI
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  rw [wp_ret]
  imodintro
  iapply Hk
  isplitl [Hc]; · iexact Hc
  iexists V; iexact HO

/-! ## A block of the send buffer: stored, shared out, put together again -/

/-- What a store into the block `[l, b]` leaves there, read as a matrix, is what was stored. -/
theorem read_stored (l : Fin 3) (b : Fin 2) (f : (sM.access (sR l b)).ty.Contents (Elt F)) (p : FVec F S64x128 .bf16) :
    (sV sM l b).view.read (Elt F) ((sM.access (sR l b)).write (Elt F) f (shapeCast S1x1x64x128 p shapeCasts_S64x128_S1x1x64x128) Finset.univ) = p := by
  have h := View.read_write_univ (v := sM.access (sR l b)) (f := f) (shapeCast S1x1x64x128 p shapeCasts_S64x128_S1x1x64x128)
  have h' : shapeCast S64x128 ((sM.access (sR l b)).read (Elt F)
      ((sM.access (sR l b)).write (Elt F) f (shapeCast S1x1x64x128 p shapeCasts_S64x128_S1x1x64x128) Finset.univ)) shapeCasts_S1x1x64x128_S64x128 = p := by
    rw [h]; exact shapeCast_shapeCast _ _ _
  exact h'

/-- A block stored. -/
theorem storeRun (c : Dev nD) (l : Fin 3) (b : Fin 2) (p : FVec F S64x128 .bf16) (Kt : PUnit → sProp 𝕄) :
    iprop((∃ X, sOwn fullShare c l b X) ∗ (sOwn fullShare c l b p -∗ Kt ⟨⟩))
      ⊢ wp frame (wpE (defs₀ (F := F)) 𝒱₀ (c : Thread nD τ) none) Set.univ (storeC l b p) Kt := by
  have hset : (sM.access (sR l b)).set = (sV sM l b).view.set := (Memref.set_view_squeeze _ _).symm
  unfold storeC storeP Prog.lift sOwn owns
  rw [← hset]
  iintro ⟨⟨%X, %f, %hf, Hs⟩, Hk⟩
  simp only [bind, Prog.bind]
  iapply (wp_load_rect 𝒱₀ (c : Thread nD τ) none Set.univ (m := sM) (r := sR l b) (S := (sM.access (sR l b)).set) (q := fullShare) (f := f)
    (Finset.Subset.refl _)) $$ Hs
  iintro Hs
  iapply (wp_store 𝒱₀ (c : Thread nD τ) none Set.univ (m := sM) (r := sR l b) (S := (sM.access (sR l b)).set) (f := f)
    (Finset.Subset.refl _)) $$ Hs
  iintro Hs
  rw [wp_ret]
  imodintro
  iapply Hk
  iexists _
  isplitr
  rotate_left
  · iexact Hs
  ipureintro
  exact read_stored l b f p

/-- Two shares of a block that holds one thing are the sum of the shares of it, both ways. -/
theorem own_share (c : Dev nD) (m : Memref sig .tc .vmem S64x128 .bf16) {q q₁ q₂ : PosShare TreeShare} (h : q ∈ q₁ ·? q₂)
    (X : FVec F S64x128 .bf16) :
    (owns (c : Thread nD τ) m q X : sProp 𝕄) ⊣⊢ iprop(owns (c : Thread nD τ) m q₁ X ∗ owns (c : Thread nD τ) m q₂ X) := by
  unfold owns
  constructor
  · iintro ⟨%f, %hf, H⟩
    ihave H2 := ((pointsTo_share h).1) $$ H
    icases H2 with ⟨H1, H2⟩
    isplitl [H1]
    · iexists f; isplitr; · ipureintro; exact hf
      iexact H1
    · iexists f; isplitr; · ipureintro; exact hf
      iexact H2
  · iintro ⟨⟨%f, %hf, H1⟩, ⟨%g, %hg, H2⟩⟩
    ihave H := (show iprop((m.view.loc (c : Thread nD τ) ↦[m.view.set]{q₁} f) ∗ m.view.loc (c : Thread nD τ) ↦[m.view.set]{q₂} g)
        ⊢ (m.view.loc (c : Thread nD τ) ↦[m.view.set]{q} f : sProp 𝕄) from
      pure_elim _ pointsTo_agree fun hag => by
        rw [pointsTo_congr (f := g) (g := f) fun i hi => ((hag i (Finset.mem_inter.mpr ⟨hi, hi⟩)).1).symm]
        exact (pointsTo_share h).2) $$ [H1 H2]
    · isplitl [H1]; · iexact H1
      iexact H2
    iexists f; isplitr; · ipureintro; exact hf
    iexact H

/-- Three things, one for each slot. -/
abbrev tri (Φ : Fin 3 → sProp 𝕄) : sProp 𝕄 := iprop(Φ 0 ∗ Φ 1 ∗ Φ 2)

/-- A whole block is its three shares, both ways. -/
theorem own_shares (c : Dev nD) (l : Fin 3) (b : Fin 2) (X : FVec F S64x128 .bf16) :
    (sOwn fullShare c l b X : sProp 𝕄) ⊣⊢ tri fun j => sOwn (shr j) c l b X := by
  have h1 := own_share (F := F) c (sV sM l b) (PosShare.mem_left_op_right fullShare) X
  have h2 := own_share (F := F) c (sV sM l b) (PosShare.mem_left_op_right fullShare.right) X
  exact ⟨h1.1.trans (BI.sep_mono (BI.Entails.refl _) h2.1), (BI.sep_mono (BI.Entails.refl _) h2.2).trans h1.2⟩

/-! ## The states of a block -/

/-- A block and all its three sends need. -/
def ready (c : Dev nD) (l : Fin 3) (b : Fin 2) : sProp 𝕄 :=
  iprop((∃ X, sOwn fullShare c l b X) ∗ (tri fun j => sendTok c l b j) ∗ tri fun j => dest c l b j)

/-- The rights to wait for the three sends' end. -/
def sent (c : Dev nD) (l : Fin 3) (b : Fin 2) : sProp 𝕄 := tri fun j => cred (tallyAt (sendCell c l b j) 0 N)

/-- The positions of the three sends' cells. -/
def kept (c : Dev nD) (l : Fin 3) (b : Fin 2) : sProp 𝕄 := tri fun j => atPos ER (sendCell c l b j) 0 ∅ 0

/-- A block back, its sends' counters at zero. -/
def back (c : Dev nD) (l : Fin 3) (b : Fin 2) : sProp 𝕄 :=
  iprop((∃ X, sOwn fullShare c l b X) ∗ tri fun j => semVal (sendCell c l b j) 0)

/-- What the receives of a block need: the positions of their cells and the rights to wait. -/
def awaited (c : Dev nD) (l : Fin 3) (b : Fin 2) : sProp 𝕄 :=
  tri fun s => iprop(atPos ER (recvCell c l b s) 0 ∅ 0 ∗ cred (tallyAt (recvCell c l b s) (lvl l b) N))

/-- What they leave: the slots, their counters at zero. -/
def arrived (c : Dev nD) (l : Fin 3) (b : Fin 2) : sProp 𝕄 :=
  tri fun s => iprop(semVal (recvCell c l b s) 0 ∗ ∃ X, rOwn c l b s X)

/-- A product stored and sent to the three others. -/
theorem blockRun (c : Dev nD) (l : Fin 3) (b : Fin 2) (p : FVec F S64x128 .bf16) (hp : p = W l b c) (ps : List (Fin 3 × Fin 2))
    (Kt : PUnit → sProp 𝕄) :
    iprop(invs W κ ∗ ready c l b ∗ owing c (blocksDue c ((l, b) :: ps)) ∗ ((sent c l b ∗ owing c (blocksDue c ps)) -∗ Kt ⟨⟩))
      ⊢ wp frame (wpE (defs₀ (F := F)) 𝒱₀ (c : Thread nD τ) none) Set.univ (blockC c l b p) Kt := by
  subst hp
  unfold blockC blockP ready
  iintro ⟨#HI, ⟨Hs, ⟨Ht0, Ht1, Ht2⟩, ⟨Hd0, Hd1, Hd2⟩⟩, HO, Hk⟩
  rw [wp_bind]
  iapply (storeRun c l b (W l b c))
  isplitl [Hs]; · iexact Hs
  iintro Hs
  ihave Hs := ((own_shares c l b (W l b c)).1) $$ Hs
  icases Hs with ⟨Hs0, Hs1, Hs2⟩
  rw [wp_bind]
  iapply (sendRun W κ c l b 1 (sendDue c l b 0 :: sendDue c l b 2 :: blocksDue c ps))
  isplitr; · iexact HI
  isplitl [Hs1]; · iexact Hs1
  isplitl [Ht1]; · iexact Ht1
  isplitl [Hd1]; · iexact Hd1
  isplitl [HO]; · iexact HO
  iintro ⟨Hc1, HO⟩
  rw [wp_bind]
  iapply (sendRun W κ c l b 0 (sendDue c l b 2 :: blocksDue c ps))
  isplitr; · iexact HI
  isplitl [Hs0]; · iexact Hs0
  isplitl [Ht0]; · iexact Ht0
  isplitl [Hd0]; · iexact Hd0
  isplitl [HO]; · iexact HO
  iintro ⟨Hc0, HO⟩
  iapply (sendRun W κ c l b 2 (blocksDue c ps))
  isplitr; · iexact HI
  isplitl [Hs2]; · iexact Hs2
  isplitl [Ht2]; · iexact Ht2
  isplitl [Hd2]; · iexact Hd2
  isplitl [HO]; · iexact HO
  iintro ⟨Hc2, HO⟩
  iapply Hk
  unfold sent
  isplitl [Hc0 Hc1 Hc2]
  · isplitl [Hc0]; · iexact Hc0
    isplitl [Hc1]; · iexact Hc1
    iexact Hc2
  iexact HO

/-! ## The waits for the sends -/

/-- The end of one send awaited: the share of the block comes back, the counter at zero. -/
theorem sentRun (c : Dev nD) (l : Fin 3) (b : Fin 2) (j : Fin 3) (Kt : PUnit → sProp 𝕄) :
    iprop(invs W κ ∗ atPos ER (sendCell c l b j) 0 ∅ 0 ∗ cred (tallyAt (sendCell c l b j) 0 N) ∗ owing c []
        ∗ ((sOwn (shr j) c l b (W l b c) ∗ semVal (sendCell c l b j) 0 ∗ owing c []) -∗ Kt ⟨⟩))
      ⊢ wp frame (wpE (defs₀ (F := F)) 𝒱₀ (c : Thread nD τ) none) Set.univ (sentC l b j) Kt := by
  unfold sentC sentP Prog.lift
  iintro ⟨#HI, Hat, Hc, ⟨%V, HO⟩, Hk⟩
  iapply (Rounds.wp_wait_rest_token 𝒱₀ ER (rd W) (c : Thread nD τ) none (sm := .dma (sendSem l b j)) (κ := κ (sendCell c l b j))
      (wpE_waitDma2_eq 𝒱₀ (c : Thread nD τ) none Set.univ) (Set.mem_univ _) 0 (O := 0) (W := V) (R := 0) (m := 0) (T := ∅)
      ((Nat.zero_add _).trans ((credit_send l b).trans (expect_send W c l b j).symm))) $$ [Hc HO Hat]
  · isplitr; · iapply (inv_send W κ c l b j); iexact HI
    isplitl [Hc]; · iexact Hc
    isplitl [HO]; · iexact HO
    isplitr; · rw [MayWait_zero]; iempintro
    iexact Hat
  iintro ⟨HO, Hat, -, Hpay⟩
  ihave Hs := (Entails.of_eq (rest_send W c l b j)) $$ Hpay
  rw [wp_ret]
  imod (close W κ (sendCell c l b j)) $$ [Hat] with Hv
  · isplitr; · iapply (inv_send W κ c l b j); iexact HI
    iexact Hat
  imodintro
  iapply Hk
  isplitl [Hs]; · iexact Hs
  isplitl [Hv]; · iexact Hv
  iexists _; iexact HO

/-- The ends of the three sends of a block awaited: the block is back. -/
theorem sentsRun (c : Dev nD) (l : Fin 3) (b : Fin 2) (Kt : PUnit → sProp 𝕄) :
    iprop(invs W κ ∗ kept c l b ∗ sent c l b ∗ owing c [] ∗ ((back c l b ∗ owing c []) -∗ Kt ⟨⟩))
      ⊢ wp frame (wpE (defs₀ (F := F)) 𝒱₀ (c : Thread nD τ) none) Set.univ (sentsC l b) Kt := by
  unfold sentsC sentsP kept sent back
  iintro ⟨#HI, ⟨Ha0, Ha1, Ha2⟩, ⟨Hc0, Hc1, Hc2⟩, HO, Hk⟩
  rw [wp_bind]
  iapply (sentRun W κ c l b 1)
  isplitr; · iexact HI
  isplitl [Ha1]; · iexact Ha1
  isplitl [Hc1]; · iexact Hc1
  isplitl [HO]; · iexact HO
  iintro ⟨Hs1, Hv1, HO⟩
  rw [wp_bind]
  iapply (sentRun W κ c l b 0)
  isplitr; · iexact HI
  isplitl [Ha0]; · iexact Ha0
  isplitl [Hc0]; · iexact Hc0
  isplitl [HO]; · iexact HO
  iintro ⟨Hs0, Hv0, HO⟩
  iapply (sentRun W κ c l b 2)
  isplitr; · iexact HI
  isplitl [Ha2]; · iexact Ha2
  isplitl [Hc2]; · iexact Hc2
  isplitl [HO]; · iexact HO
  iintro ⟨Hs2, Hv2, HO⟩
  iapply Hk
  isplitr [HO]
  · isplitl [Hs0 Hs1 Hs2]
    · iexists _
      iapply ((own_shares c l b (W l b c)).2)
      isplitl [Hs0]; · iexact Hs0
      isplitl [Hs1]; · iexact Hs1
      iexact Hs2
    isplitl [Hv0]; · iexact Hv0
    isplitl [Hv1]; · iexact Hv1
    iexact Hv2
  iexact HO

/-! ## The receives -/

/-- One slot awaited and read: what its sender sent. -/
theorem recvRun (c : Dev nD) (l : Fin 3) (b : Fin 2) (s : Fin 3) (ps : List (Fin 3 × Fin 2)) (h : ∀ p ∈ ps, lvl l b < lvl p.1 p.2)
    (Kt : FVec F S64x128 .bf16 → sProp 𝕄) :
    iprop(invs W κ ∗ levAts (SiteBlocks.L nLv) SiteBlocks.lv ∗ (atPos ER (recvCell c l b s) 0 ∅ 0 ∗ cred (tallyAt (recvCell c l b s) (lvl l b) N))
        ∗ owing c (blocksDue c ps)
        ∗ (((semVal (recvCell c l b s) 0 ∗ ∃ X, rOwn c l b s X) ∗ owing c (blocksDue c ps)) -∗ Kt (W l b (peer c s))))
      ⊢ wp frame (wpE (defs₀ (F := F)) 𝒱₀ (c : Thread nD τ) none) Set.univ (recvC l b s) Kt := by
  have hset : (rM.access (rR l b s)).set = (rV rM l b s).view.set := (Memref.set_view_squeeze _ _).symm
  unfold recvC recvP Prog.lift
  iintro ⟨#HI, #Hlev, ⟨Hat, Hc⟩, ⟨%V, HO⟩, Hk⟩
  simp only [bind, Prog.bind, Pure.pure]
  iapply (Rounds.wp_wait_rest_token 𝒱₀ ER (rd W) (c : Thread nD τ) none (sm := .dma (recvSem l b s)) (κ := κ (recvCell c l b s))
      (wpE_waitDma2_eq 𝒱₀ (c : Thread nD τ) none Set.univ) (Set.mem_univ _) (lvl l b) (O := tallyL (blocksDue c ps)) (W := V) (R := 0) (m := 0) (T := ∅)
      ((Nat.zero_add _).trans ((credit_recv l b s).trans (expect_recv W c l b s).symm))) $$ [Hc HO Hat]
  · isplitr; · iapply (inv_recv W κ c l b s); iexact HI
    isplitl [Hc]; · iexact Hc
    isplitl [HO]; · iexact HO
    isplitr; · iapply (mayWait c _ (lvl l b) (lvl_lt l b) ps h); iexact Hlev
    iexact Hat
  iintro ⟨HO, Hat, -, Hpay⟩
  ihave Hs := (Entails.of_eq ((rest_recv W c l b s).trans (by unfold rOwn owns; rw [← hset] :
    rOwn c l b s (W l b (peer c s)) = iprop(∃ f, ⌜(rV rM l b s).view.read (Elt F) f = W l b (peer c s)⌝
      ∗ ((rM.access (rR l b s)).loc (c : Thread nD τ) ↦[(rM.access (rR l b s)).set]{fullShare} f))))) $$ Hpay
  icases Hs with ⟨%f, %hf, Hs⟩
  iapply (wp_load_rect 𝒱₀ (c : Thread nD τ) none Set.univ (m := rM) (r := rR l b s) (S := (rM.access (rR l b s)).set) (q := fullShare) (f := f)
    (Finset.Subset.refl _)) $$ Hs
  iintro Hs
  rw [wp_ret]
  imod (close W κ (recvCell c l b s)) $$ [Hat] with Hv
  · isplitr; · iapply (inv_recv W κ c l b s); iexact HI
    iexact Hat
  imodintro
  rw [show shapeCast S64x128 ((rM.access (rR l b s)).read (Elt F) f) shapeCasts_S1x1x1x64x128_S64x128 = W l b (peer c s) from hf]
  iapply Hk
  isplitr [HO]
  · isplitl [Hv]; · iexact Hv
    iexists (W l b (peer c s))
    unfold rOwn owns
    iexists f; isplitr; · ipureintro; exact hf
    rw [← hset]; iexact Hs
  iexists _; iexact HO

/-- The own product and the three received. -/
def gathered (c : Dev nD) (l : Fin 3) (b : Fin 2) (p : FVec F S64x128 .f32) : FVec F S64x128 .f32 :=
  addV (addV (addV p (W l b (peer c 0))) (W l b (peer c 2))) (W l b (peer c 1))

/-- The three slots of a block awaited, read and added up. -/
theorem gatherRun (c : Dev nD) (l : Fin 3) (b : Fin 2) (p : FVec F S64x128 .f32) (ps : List (Fin 3 × Fin 2))
    (h : ∀ p ∈ ps, lvl l b < lvl p.1 p.2) (Kt : FVec F S64x128 .f32 → sProp 𝕄) :
    iprop(invs W κ ∗ levAts (SiteBlocks.L nLv) SiteBlocks.lv ∗ awaited c l b ∗ owing c (blocksDue c ps)
        ∗ ((arrived c l b ∗ owing c (blocksDue c ps)) -∗ Kt (gathered W c l b p)))
      ⊢ wp frame (wpE (defs₀ (F := F)) 𝒱₀ (c : Thread nD τ) none) Set.univ (gatherC l b p) Kt := by
  unfold gatherC gatherP awaited arrived
  iintro ⟨#HI, #Hlev, ⟨Ha0, Ha1, Ha2⟩, HO, Hk⟩
  rw [wp_bind]
  iapply (recvRun W κ c l b 0 ps h)
  isplitr; · iexact HI
  isplitr; · iexact Hlev
  isplitl [Ha0]; · iexact Ha0
  isplitl [HO]; · iexact HO
  iintro ⟨Ha0, HO⟩
  rw [wp_bind]
  iapply (recvRun W κ c l b 2 ps h)
  isplitr; · iexact HI
  isplitr; · iexact Hlev
  isplitl [Ha2]; · iexact Ha2
  isplitl [HO]; · iexact HO
  iintro ⟨Ha2, HO⟩
  rw [wp_bind]
  iapply (recvRun W κ c l b 1 ps h)
  isplitr; · iexact HI
  isplitr; · iexact Hlev
  isplitl [Ha1]; · iexact Ha1
  isplitl [HO]; · iexact HO
  iintro ⟨Ha1, HO⟩
  simp only [Pure.pure]
  unfold gathered
  rw [wp_ret]
  imodintro
  iapply Hk
  isplitr [HO]
  · isplitl [Ha0]; · iexact Ha0
    isplitl [Ha1]; · iexact Ha1
    iexact Ha2
  iexact HO

/-! ## The handshake -/

/-- A device's slots that its peer `i` fills, free, their cells at the round the copies are to complete. -/
def slots (c : Dev nD) (i : Fin 3) : sProp 𝕄 :=
  bigSep Finset.univ fun p : Fin 3 × Fin 2 => iprop((∃ X, rOwn c p.1 p.2 i X) ∗ reached ER (recvCell c p.1 p.2 i) 0)

/-- They are the destinations of the peer's sends. -/
theorem slots_eq (c : Dev nD) (i : Fin 3) : slots (F := F) c i = dests (peer c i) (rev i) := by
  unfold slots dests dest
  rw [peer_rev, rev_rev]

/-- The signal to a device `e`. -/
abbrev sigTo (e : Dev nD) : Pr F PUnit := semSignalWord e barS 1#32

/-- One signal: the slots the peer fills are handed to it. -/
theorem sigRun (c : Dev nD) (i : Fin 3) (rest : List (Pay nD τ sig)) (Kt : PUnit → sProp 𝕄) :
    iprop(invs W κ ∗ (dutyTok ER (barCell (peer c i)) 0 (rev i) ∗ reached ER (barCell (peer c i)) 0) ∗ slots c i ∗ owing c (sigDue c i :: rest)
        ∗ (owing c rest -∗ Kt ⟨⟩))
      ⊢ wp frame (wpE (defs₀ (F := F)) 𝒱₀ (c : Thread nD τ) none) Set.univ (sigTo (peer c i)) Kt := by
  rw [slots_eq]
  iintro ⟨#HI, ⟨Ht, #Hr⟩, Hs, ⟨%V, HO⟩, Hk⟩
  iapply (Rounds.wp_signal 𝒱₀ ER (rd W) (c : Thread nD τ) none (dst := (peer c i : Thread nD τ)) (sem := barS) (r := 0) (d := rev i)
      (k' := 1) (κ := κ (barCell (peer c i))) (by rw [duties_bar]; exact Finset.mem_univ _) (amount_bar W (peer c i) _) 1 (O₀ := tallyL (sigDue c i :: rest))
      (tallyL rest) (add_comm _ _)) $$ [HO Ht Hs]
  · isplitr; · iapply (inv_bar W κ (peer c i)); iexact HI
    isplitl [HO]; · iexact HO
    isplitl [Ht]; · iexact Ht
    isplitl [Hs]; · rw [payload_bar]; iexact Hs
    iexact Hr
  iintro HO
  rw [wp_ret]
  imodintro
  iapply Hk
  iexists V; iexact HO

/-- The tokens of the signals. -/
def sigTok (c : Dev nD) (i : Fin 3) : sProp 𝕄 := iprop(dutyTok ER (barCell (peer c i)) 0 (rev i) ∗ reached ER (barCell (peer c i)) 0)

/-- The handshake: a device's slots go to those that fill them, the slots it is to fill come. -/
theorem barrierRun (c : Dev nD) (Kt : PUnit → sProp 𝕄) :
    iprop(invs W κ ∗ levAts (SiteBlocks.L nLv) SiteBlocks.lv ∗ (tri fun i => sigTok c i) ∗ (tri fun i => slots c i)
        ∗ atPos ER (barCell c) 0 ∅ 0 ∗ cred (tallyAt (barCell c) 1 3) ∗ owing c (due c)
        ∗ ((semVal (barCell c) 0 ∗ (tri fun j => dests c j) ∗ owing c (blocksDue c order)) -∗ Kt ⟨⟩))
      ⊢ wp frame (wpE (defs₀ (F := F)) 𝒱₀ (c : Thread nD τ) none) Set.univ (barrierP c) Kt := by
  unfold barrierP sigTok
  rw [(sigDev_eq c).1, (sigDev_eq c).2.1, (sigDev_eq c).2.2]
  iintro ⟨#HI, #Hlev, ⟨Ht0, Ht1, Ht2⟩, ⟨Hs0, Hs1, Hs2⟩, Hat, Hc, HO, Hk⟩
  rw [wp_bind]
  iapply (sigRun W κ c 0 (sigDue c 1 :: sigDue c 2 :: blocksDue c order))
  isplitr; · iexact HI
  isplitl [Ht0]; · iexact Ht0
  isplitl [Hs0]; · iexact Hs0
  isplitl [HO]; · iexact HO
  iintro HO
  rw [wp_bind]
  iapply (sigRun W κ c 1 (sigDue c 2 :: blocksDue c order))
  isplitr; · iexact HI
  isplitl [Ht1]; · iexact Ht1
  isplitl [Hs1]; · iexact Hs1
  isplitl [HO]; · iexact HO
  iintro HO
  rw [wp_bind]
  iapply (sigRun W κ c 2 (blocksDue c order))
  isplitr; · iexact HI
  isplitl [Ht2]; · iexact Ht2
  isplitl [Hs2]; · iexact Hs2
  isplitl [HO]; · iexact HO
  iintro ⟨%V, HO⟩
  iapply (Rounds.wp_wait_rest_token 𝒱₀ ER (rd W) (c : Thread nD τ) none (sm := .reg barS) (κ := κ (barCell c)) (k' := 3)
      (wpE_semWait_eq 𝒱₀ (c : Thread nD τ) none Set.univ) (Set.mem_univ _) 1 (O := tallyL (blocksDue c order)) (W := V) (R := 0) (m := 0) (T := ∅)
      ((Nat.zero_add _).trans (expect_bar W c).symm)) $$ [Hc HO Hat]
  · isplitr; · iapply (inv_bar W κ c); iexact HI
    isplitl [Hc]; · iexact Hc
    isplitl [HO]; · iexact HO
    isplitr; · iapply (mayWait c _ 1 (by decide) order (by decide)); iexact Hlev
    iexact Hat
  iintro ⟨HO, Hat, -, Hpay⟩
  ihave Hd := (Entails.of_eq (rest_bar W c)) $$ Hpay
  rw [wp_ret]
  imod (close W κ (barCell c)) $$ [Hat] with Hv
  · isplitr; · iapply (inv_bar W κ c); iexact HI
    iexact Hat
  imodintro
  iapply Hk
  isplitl [Hv]; · iexact Hv
  isplitl [Hd]; · iexact Hd
  iexists _; iexact HO

end Cert.KernelIdeal.Ring

end
-- ==== Proof.KernelIdeal.Body.lean ====
/-
# The run of the body

What the products and sums of the layers are, of the staged contents of every device, and the run of the whole body on
one device: the steps in order, each leaving what the later ones need.
-/
module

public import proofs.«01_k».proof.Proof.KernelIdeal.Run
public import Idealize.ShloMosaic.Lib.Pointwise.Index

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Idealize.ShloMosaic.View (ld)

variable {F : FTy → Type} [FloatOps F]

local notation "𝕄" => MT nD τ sig ℕ (Elt F) ℕ UU ℕ

/-! ## The values -/

/-- Every device's stacked first weights, and its stacked rows and second weights. -/
abbrev WIn (F : FTy → Type) : Type := Dev nD → FVec F S384x256 .f32
@[inherit_doc WIn] abbrev XIn (F : FTy → Type) : Type := Dev nD → FVec F S896x128 .f32

section Values

variable (A : WIn F) (B : XIn F)

/-- Layer `l` on given rows, with the weights of device `c`. -/
def lay (c : Dev nD) (l : Fin 3) (x : FVec F S64x128 .f32) : FVec F S64x128 .f32 :=
  layerV x (ld (Val := Elt F) (e' := .f32) (A c) (wR l)) (ld (Val := Elt F) (e' := .f32) (B c) (uR l))

/-- The sum over the devices of their products: a device's own, then the three received, in the order it adds them. -/
def sumOf (P : Dev nD → FVec F S64x128 .f32) (c : Dev nD) : FVec F S64x128 .f32 :=
  addV (addV (addV (P c) (wireV (P (peer c 0)))) (wireV (P (peer c 2)))) (wireV (P (peer c 1)))

/-- Half `b` of the rows device `c` starts from. -/
def rows (b : Fin 2) (c : Dev nD) : FVec F S64x128 .f32 :=
  shapeCast S64x128 (ld (Val := Elt F) (e' := .f32) (B c) (xR b)) shapeCasts_S64x128_S64x128

/-- Device `c`'s product of layer `l` on half `b` of the rows. -/
def prod : Fin 3 → Fin 2 → Dev nD → FVec F S64x128 .f32
  | 0 => fun b c => lay A B c 0 (rows B b c)
  | 1 => fun b c => lay A B c 1 (sumOf (fun c => lay A B c 0 (rows B b c)) c)
  | 2 => fun b c => lay A B c 2 (sumOf (fun c => lay A B c 1 (sumOf (fun c => lay A B c 0 (rows B b c)) c)) c)

/-- What device `c` sends of it. -/
def wires (l : Fin 3) (b : Fin 2) (c : Dev nD) : FVec F S64x128 .bf16 := wireV (prod A B l b c)

/-- Device `c`'s result. -/
def outV (c : Dev nD) : FVec F S128x128 .f32 := fun y =>
  sumOf (prod A B 2 ⟨(y 0).val / 64, by have : (y 0).val < 128 := (y 0).isLt; omega⟩) c
    (ix2 (n0 := 64) (n1 := 128) ⟨(y 0).val % 64, Nat.mod_lt _ (by decide)⟩ ⟨(y 1).val, (y 1).isLt⟩)

/-- Half `b` of the result is the sum of the last products. -/
theorem ld_outV (c : Dev nD) (b : Fin 2) : ld (Val := Elt F) (e' := .f32) (outV A B c) (oR b) = sumOf (prod A B 2 b) c := by
  funext x
  have hx : (x 0).val < 64 := (x 0).isLt
  have hb : b.val < 2 := b.isLt
  have h0 : (((oR b).idx x) 0).val = b.val * 64 + (x 0).val := by
    show b.val * 64 + 1 * (x 0).val = _; omega
  have h1 : (((oR b).idx x) 1).val = (x 1).val := by
    show 0 + 1 * (x 1).val = _; omega
  show sumOf (prod A B 2 ⟨(((oR b).idx x) 0).val / 64, _⟩) c (ix2 ⟨(((oR b).idx x) 0).val % 64, _⟩ ⟨(((oR b).idx x) 1).val, _⟩) = _
  have e1 : (⟨(((oR b).idx x) 0).val / 64, by omega⟩ : Fin 2) = b := Fin.ext (by show (((oR b).idx x) 0).val / 64 = b.val; omega)
  have e2 : (ix2 (n0 := 64) (n1 := 128) ⟨(((oR b).idx x) 0).val % 64, Nat.mod_lt _ (by decide)⟩
      ⟨(((oR b).idx x) 1).val, (((oR b).idx x) 1).isLt⟩) = x := by
    rw [eq_ix2 (n0 := 64) (n1 := 128) x]
    congr 1 <;> apply Fin.ext
    · show (((oR b).idx x) 0).val % 64 = (x 0).val; omega
    · show (((oR b).idx x) 1).val = (x 1).val; exact h1
  exact (congrArg (fun i => sumOf (prod A B 2 i) c _) e1).trans (congrArg _ e2)

end Values

variable (A : WIn F) (B : XIn F) (κ : GSem nD τ sig → ℕ)
variable (arg0 : Memref sig .tc .vmem S384x256 .f32) (arg1 : Memref sig .tc .vmem S896x128 .f32) (arg2 : Memref sig .tc .vmem S128x128 .f32)

/-- The staged operands of device `c`. -/
abbrev ins (c : Dev nD) : sProp 𝕄 := iprop(owns (c : Thread nD τ) arg0 fullShare (A c) ∗ owns (c : Thread nD τ) arg1 fullShare (B c))

/-- A layer's weights read, the product. -/
theorem layerRun (c : Dev nD) (l : Fin 3) (x : FVec F S64x128 .f32) (Kt : FVec F S64x128 .f32 → sProp 𝕄) :
    iprop(ins A B arg0 arg1 c ∗ (ins A B arg0 arg1 c -∗ Kt (lay A B c l x)))
      ⊢ wp frame (wpE (defs₀ (F := F)) 𝒱₀ (c : Thread nD τ) none) Set.univ (layerP arg0 arg1 l x) Kt := by
  unfold layerP Prog.lift ins owns
  iintro ⟨⟨⟨%f, %hf, H0⟩, ⟨%g, %hg, H1⟩⟩, Hk⟩
  simp only [bind, Prog.bind, Pure.pure]
  iapply (wp_load 𝒱₀ (c : Thread nD τ) none Set.univ (m := arg0) (r := (wR l).toLoadRect) (S := arg0.view.set) (q := fullShare) (f := f)
    (View.setOn_subset_set _ _)) $$ H0
  iintro H0
  iapply (wp_load 𝒱₀ (c : Thread nD τ) none Set.univ (m := arg1) (r := (uR l).toLoadRect) (S := arg1.view.set) (q := fullShare) (f := g)
    (View.setOn_subset_set _ _)) $$ H1
  iintro H1
  rw [wp_ret]
  imodintro
  have e : layerV x (arg0.view.readAt (Elt F) (wR l).toLoadRect f) (arg1.view.readAt (Elt F) (uR l).toLoadRect g) = lay A B c l x := by
    unfold lay
    rw [← hf, ← hg]; rfl
  rw [e]
  iapply Hk
  isplitl [H0]
  · iexists f; isplitr; · ipureintro; exact hf
    iexact H0
  · iexists g; isplitr; · ipureintro; exact hg
    iexact H1

/-- The first layer on half `b` of the rows. -/
theorem firstRun (c : Dev nD) (b : Fin 2) (ps : List (Fin 3 × Fin 2)) (Kt : FVec F S64x128 .f32 → sProp 𝕄) :
    iprop(invs (wires A B) κ ∗ ins A B arg0 arg1 c ∗ ready c 0 b ∗ owing c (blocksDue c ((0, b) :: ps))
        ∗ ((ins A B arg0 arg1 c ∗ sent c 0 b ∗ owing c (blocksDue c ps)) -∗ Kt (prod A B 0 b c)))
      ⊢ wp frame (wpE (defs₀ (F := F)) 𝒱₀ (c : Thread nD τ) none) Set.univ
          (firstP arg0 arg1 sM (Memref.isWhole_whole _) rM (Memref.isWhole_whole _) cc0_scratch2 cc0_scratch3 c b) Kt := by
  unfold firstP Prog.lift ins owns
  iintro ⟨#HI, ⟨⟨%f, %hf, H0⟩, ⟨%g, %hg, H1⟩⟩, Hr, HO, Hk⟩
  rw [wp_bind]
  iapply (wp_load 𝒱₀ (c : Thread nD τ) none Set.univ (m := arg1) (r := (xR b).toLoadRect) (S := arg1.view.set) (q := fullShare) (f := g)
    (View.setOn_subset_set _ _)) $$ H1
  iintro H1
  rw [wp_ret]
  imodintro
  have e : shapeCast S64x128 (arg1.view.readAt (Elt F) (xR b).toLoadRect g) shapeCasts_S64x128_S64x128 = rows B b c := by
    unfold rows; rw [← hg]; rfl
  rw [e]
  rw [wp_bind]
  iapply (layerRun A B arg0 arg1 c 0 (rows B b c))
  isplitl [H0 H1]
  · unfold ins owns
    isplitl [H0]
    · iexists f; isplitr; · ipureintro; exact hf
      iexact H0
    iexists g; isplitr; · ipureintro; exact hg
    iexact H1
  iintro Hin
  rw [show lay A B c 0 (rows B b c) = prod A B 0 b c from rfl]
  rw [wp_bind]
  iapply (blockRun (wires A B) κ c 0 b _ rfl ps)
  isplitr; · iexact HI
  isplitl [Hr]; · iexact Hr
  isplitl [HO]; · iexact HO
  iintro ⟨Hs, HO⟩
  simp only [Pure.pure]
  rw [wp_ret]
  imodintro
  iapply Hk
  isplitl [Hin]; · iexact Hin
  isplitl [Hs]; · iexact Hs
  iexact HO

/-- A later layer on half `b` of the rows. -/
theorem nextRun (c : Dev nD) (l l' : Fin 3) (b : Fin 2) (hl : prod A B l' b c = lay A B c l' (sumOf (prod A B l b) c)) (ps : List (Fin 3 × Fin 2))
    (h : ∀ p ∈ (l', b) :: ps, lvl l b < lvl p.1 p.2) (Kt : FVec F S64x128 .f32 → sProp 𝕄) :
    iprop(invs (wires A B) κ ∗ levAts (SiteBlocks.L nLv) SiteBlocks.lv ∗ ins A B arg0 arg1 c ∗ awaited c l b ∗ ready c l' b
        ∗ owing c (blocksDue c ((l', b) :: ps))
        ∗ ((ins A B arg0 arg1 c ∗ arrived c l b ∗ sent c l' b ∗ owing c (blocksDue c ps)) -∗ Kt (prod A B l' b c)))
      ⊢ wp frame (wpE (defs₀ (F := F)) 𝒱₀ (c : Thread nD τ) none) Set.univ
          (nextP arg0 arg1 sM (Memref.isWhole_whole _) rM (Memref.isWhole_whole _) cc0_scratch2 cc0_scratch3 c l l' b (prod A B l b c)) Kt := by
  unfold nextP
  iintro ⟨#HI, #Hlev, Hin, Ha, Hr, HO, Hk⟩
  rw [wp_bind]
  iapply (gatherRun (wires A B) κ c l b (prod A B l b c) _ h)
  isplitr; · iexact HI
  isplitr; · iexact Hlev
  isplitl [Ha]; · iexact Ha
  isplitl [HO]; · iexact HO
  iintro ⟨Ha, HO⟩
  rw [wp_bind]
  iapply (layerRun A B arg0 arg1 c l' (gathered (wires A B) c l b (prod A B l b c)))
  isplitl [Hin]; · iexact Hin
  iintro Hin
  rw [show lay A B c l' (gathered (wires A B) c l b (prod A B l b c)) = prod A B l' b c from hl.symm]
  rw [wp_bind]
  iapply (blockRun (wires A B) κ c l' b _ rfl ps)
  isplitr; · iexact HI
  isplitl [Hr]; · iexact Hr
  isplitl [HO]; · iexact HO
  iintro ⟨Hs, HO⟩
  simp only [Pure.pure]
  rw [wp_ret]
  imodintro
  iapply Hk
  isplitl [Hin]; · iexact Hin
  isplitl [Ha]; · iexact Ha
  isplitl [Hs]; · iexact Hs
  iexact HO

/-- Half `b` of the result: the last products gathered and stored. -/
theorem outRun (c : Dev nD) (b : Fin 2) (Z : FVec F S128x128 .f32) (Kt : PUnit → sProp 𝕄) :
    iprop(invs (wires A B) κ ∗ levAts (SiteBlocks.L nLv) SiteBlocks.lv ∗ awaited c 2 b ∗ owns (c : Thread nD τ) arg2 fullShare Z ∗ owing c []
        ∗ (∀ Z', ⌜(∀ y ∈ (oR b).set, Z' y = outV A B c y) ∧ ∀ y, y ∉ (oR b).set → Z' y = Z y⌝
            -∗ (arrived c 2 b ∗ owns (c : Thread nD τ) arg2 fullShare Z' ∗ owing c []) -∗ Kt ⟨⟩))
      ⊢ wp frame (wpE (defs₀ (F := F)) 𝒱₀ (c : Thread nD τ) none) Set.univ
          (outP arg2 sM (Memref.isWhole_whole _) rM (Memref.isWhole_whole _) cc0_scratch3 b (prod A B 2 b c)) Kt := by
  unfold outP Prog.lift owns
  iintro ⟨#HI, #Hlev, Ha, ⟨%f, %hf, H2⟩, HO, Hk⟩
  rw [wp_bind]
  iapply (gatherRun (wires A B) κ c 2 b (prod A B 2 b c) [] (by simp))
  isplitr; · iexact HI
  isplitr; · iexact Hlev
  isplitl [Ha]; · iexact Ha
  isplitl [HO]; · iexact HO
  iintro ⟨Ha, HO⟩
  simp only [bind, Prog.bind]
  iapply (wp_load 𝒱₀ (c : Thread nD τ) none Set.univ (m := arg2) (r := (oR b).toLoadRect) (S := arg2.view.set) (q := fullShare) (f := f)
    (View.setOn_subset_set _ _)) $$ H2
  iintro H2
  iapply (wp_store 𝒱₀ (c : Thread nD τ) none Set.univ (m := arg2) (r := oR b) (S := arg2.view.set) (f := f)
    (View.set_slice_subset _ _)) $$ H2
  iintro H2
  rw [wp_ret]
  imodintro
  have e : gathered (wires A B) c 2 b (prod A B 2 b c) = ld (Val := Elt F) (e' := .f32) (outV A B c) (oR b) := (ld_outV A B c b).symm
  rw [e]
  iapply Hk $$ %(arg2.view.read (Elt F) ((arg2.access (oR b)).write (Elt F) f (ld (Val := Elt F) (e' := .f32) (outV A B c) (oR b)) Finset.univ)) []
  · ipureintro
    constructor
    · intro y hy
      obtain ⟨x, rfl⟩ := (oR b).exists_idx_of_mem hy
      exact View.read_slice_write_emb (v := arg2.view) (oR b) f _ (Finset.mem_univ x)
    · intro y hy
      rw [View.read_slice_write_of_not_mem (v := arg2.view) (oR b) f _ Finset.univ (by rwa [Rect.map_emb_univ]), hf]
  isplitl [Ha]; · iexact Ha
  isplitl [H2]
  · iexists _; isplitr
    rotate_left
    · iexact H2
    ipureintro; rfl
  iexact HO

/-! ## The whole body -/

/-- A property of every block, block by block. -/
abbrev six (Φ : Fin 3 → Fin 2 → sProp 𝕄) : sProp 𝕄 := iprop(Φ 0 0 ∗ Φ 0 1 ∗ Φ 1 0 ∗ Φ 1 1 ∗ Φ 2 0 ∗ Φ 2 1)

theorem bigSep_six (Φ : Fin 3 → Fin 2 → sProp 𝕄) : bigSep Finset.univ (fun p : Fin 3 × Fin 2 => Φ p.1 p.2) = six Φ := by
  have assoc (P Q R : sProp 𝕄) : iprop((P ∗ Q) ∗ R) = iprop(P ∗ Q ∗ R) := BI.sep_assoc.antisymm BI.sep_assoc'
  rw [bigSep_univ_prod, bigSep_W0]
  show iprop(bigSep Finset.univ (fun b => Φ 0 b) ∗ bigSep Finset.univ (fun b => Φ 1 b) ∗ bigSep Finset.univ (fun b => Φ 2 b)) = _
  have two (l : Fin 3) : bigSep Finset.univ (fun b => Φ l b) = iprop(Φ l 0 ∗ Φ l 1) := bigSep_fin_two _
  rw [two, two, two, assoc, assoc]

/-- The destinations of a device's sends, block by block. -/
theorem dests_six (c : Dev nD) : (tri fun j => dests (F := F) c j) = six fun l b => tri fun j => dest c l b j := by
  rw [← bigSep_six]
  unfold dests
  rw [bigSep_sep', bigSep_sep']

/-- What a device has of a block at the start. -/
def start (c : Dev nD) (l : Fin 3) (b : Fin 2) : sProp 𝕄 :=
  iprop((∃ X, sOwn fullShare c l b X) ∗ (tri fun j => sendTok c l b j) ∗ kept c l b ∗ awaited c l b)

/-- What it has of it at the end. -/
def finish (c : Dev nD) (l : Fin 3) (b : Fin 2) : sProp 𝕄 := iprop(back c l b ∗ arrived c l b)

/-- With the slots its sends go to, a block at the start is ready. -/
theorem start_ready (c : Dev nD) (l : Fin 3) (b : Fin 2) :
    iprop(start c l b ∗ tri fun j => dest c l b j) ⊢ iprop(ready c l b ∗ kept c l b ∗ awaited (F := F) c l b) := by
  unfold start ready
  iintro ⟨⟨Hs, Ht, Hk, Ha⟩, Hd⟩
  isplitl [Hs Ht Hd]
  · isplitl [Hs]; · iexact Hs
    isplitl [Ht]; · iexact Ht
    iexact Hd
  isplitl [Hk]; · iexact Hk
  iexact Ha

/-- What a device needs to run the body. -/
def bodyPre (c : Dev nD) : sProp 𝕄 :=
  iprop(invs (wires A B) κ ∗ levAts (SiteBlocks.L nLv) SiteBlocks.lv ∗ (tri fun i => sigTok c i) ∗ (tri fun i => slots c i)
    ∗ atPos ER (barCell c) 0 ∅ 0 ∗ cred (tallyAt (barCell c) 1 3) ∗ (six fun l b => start c l b))

/-- What the run of the body leaves it. -/
def bodyPost (c : Dev nD) : sProp 𝕄 := iprop(semVal (barCell c) 0 ∗ six fun l b => finish c l b)

/-- The run of the body on device `c`: its operands are unchanged, its result is the sum of the last products, every
    semaphore is back at zero, every buffer back. -/
theorem bodyRun (c : Dev nD) (Kt : PUnit → sProp 𝕄) :
    iprop(bodyPre A B κ c ∗ ins A B arg0 arg1 c ∗ (∃ Z, owns (c : Thread nD τ) arg2 fullShare Z) ∗ owing c (due c)
        ∗ ((bodyPost c ∗ ins A B arg0 arg1 c ∗ owns (c : Thread nD τ) arg2 fullShare (outV A B c) ∗ owing c []) -∗ Kt ⟨⟩))
      ⊢ wp frame (wpE (defs₀ (F := F)) 𝒱₀ (c : Thread nD τ) none) Set.univ
          (bodyP arg0 arg1 arg2 sM (Memref.isWhole_whole _) rM (Memref.isWhole_whole _) cc0_scratch2 cc0_scratch3) Kt := by
  unfold bodyP bodyPre bodyPost Prog.lift
  iintro ⟨⟨#HI, #Hlev, Ht, Hsl, Hat, Hcb, ⟨S00, S01, S10, S11, S20, S21⟩⟩, Hin, ⟨%Z, HZ⟩, HO, Hk⟩
  rw [wp_bind, wp_deviceId, wp_ret]
  imodintro
  rw [wp_bind]
  iapply (barrierRun (wires A B) κ c)
  isplitr; · iexact HI
  isplitr; · iexact Hlev
  isplitl [Ht]; · iexact Ht
  isplitl [Hsl]; · iexact Hsl
  isplitl [Hat]; · iexact Hat
  isplitl [Hcb]; · iexact Hcb
  isplitl [HO]; · iexact HO
  iintro ⟨Hbar, Hd, HO⟩
  ihave Hd := (Entails.of_eq (dests_six c)) $$ Hd
  icases Hd with ⟨D00, D01, D10, D11, D20, D21⟩
  ihave S00 := (start_ready c 0 0) $$ [S00 D00]
  · isplitl [S00]; · iexact S00
    iexact D00
  ihave S01 := (start_ready c 0 1) $$ [S01 D01]
  · isplitl [S01]; · iexact S01
    iexact D01
  ihave S10 := (start_ready c 1 0) $$ [S10 D10]
  · isplitl [S10]; · iexact S10
    iexact D10
  ihave S11 := (start_ready c 1 1) $$ [S11 D11]
  · isplitl [S11]; · iexact S11
    iexact D11
  ihave S20 := (start_ready c 2 0) $$ [S20 D20]
  · isplitl [S20]; · iexact S20
    iexact D20
  ihave S21 := (start_ready c 2 1) $$ [S21 D21]
  · isplitl [S21]; · iexact S21
    iexact D21
  icases S00 with ⟨R00, K00, A00⟩
  icases S01 with ⟨R01, K01, A01⟩
  icases S10 with ⟨R10, K10, A10⟩
  icases S11 with ⟨R11, K11, A11⟩
  icases S20 with ⟨R20, K20, A20⟩
  icases S21 with ⟨R21, K21, A21⟩
  rw [wp_bind]
  iapply (firstRun A B κ arg0 arg1 c 0 [(0, 1), (1, 0), (1, 1), (2, 0), (2, 1)])
  isplitr; · iexact HI
  isplitl [Hin]; · iexact Hin
  isplitl [R00]; · iexact R00
  isplitl [HO]; · iexact HO
  iintro ⟨Hin, T00, HO⟩
  rw [wp_bind]
  iapply (firstRun A B κ arg0 arg1 c 1 [(1, 0), (1, 1), (2, 0), (2, 1)])
  isplitr; · iexact HI
  isplitl [Hin]; · iexact Hin
  isplitl [R01]; · iexact R01
  isplitl [HO]; · iexact HO
  iintro ⟨Hin, T01, HO⟩
  rw [wp_bind]
  iapply (nextRun A B κ arg0 arg1 c 0 1 0 rfl [(1, 1), (2, 0), (2, 1)] (by decide))
  isplitr; · iexact HI
  isplitr; · iexact Hlev
  isplitl [Hin]; · iexact Hin
  isplitl [A00]; · iexact A00
  isplitl [R10]; · iexact R10
  isplitl [HO]; · iexact HO
  iintro ⟨Hin, A00, T10, HO⟩
  rw [wp_bind]
  iapply (nextRun A B κ arg0 arg1 c 0 1 1 rfl [(2, 0), (2, 1)] (by decide))
  isplitr; · iexact HI
  isplitr; · iexact Hlev
  isplitl [Hin]; · iexact Hin
  isplitl [A01]; · iexact A01
  isplitl [R11]; · iexact R11
  isplitl [HO]; · iexact HO
  iintro ⟨Hin, A01, T11, HO⟩
  rw [wp_bind]
  iapply (nextRun A B κ arg0 arg1 c 1 2 0 rfl [(2, 1)] (by decide))
  isplitr; · iexact HI
  isplitr; · iexact Hlev
  isplitl [Hin]; · iexact Hin
  isplitl [A10]; · iexact A10
  isplitl [R20]; · iexact R20
  isplitl [HO]; · iexact HO
  iintro ⟨Hin, A10, T20, HO⟩
  rw [wp_bind]
  iapply (nextRun A B κ arg0 arg1 c 1 2 1 rfl [] (by decide))
  isplitr; · iexact HI
  isplitr; · iexact Hlev
  isplitl [Hin]; · iexact Hin
  isplitl [A11]; · iexact A11
  isplitl [R21]; · iexact R21
  isplitl [HO]; · iexact HO
  iintro ⟨Hin, A11, T21, HO⟩
  rw [wp_bind]
  iapply (outRun A B κ arg2 c 0 Z)
  isplitr; · iexact HI
  isplitr; · iexact Hlev
  isplitl [A20]; · iexact A20
  isplitl [HZ]; · iexact HZ
  isplitl [HO]; · iexact HO
  iintro %Z1 %h1 ⟨A20, HZ, HO⟩
  rw [wp_bind]
  iapply (outRun A B κ arg2 c 1 Z1)
  isplitr; · iexact HI
  isplitr; · iexact Hlev
  isplitl [A21]; · iexact A21
  isplitl [HZ]; · iexact HZ
  isplitl [HO]; · iexact HO
  iintro %Z2 %h2 ⟨A21, HZ, HO⟩
  have hZ : Z2 = outV A B c := by
    funext y
    by_cases hy : y ∈ (oR 1).set
    · exact h2.1 y hy
    · rw [h2.2 y hy]
      refine h1.1 y (Rect.mem_set_unit.mpr fun a => ?_)
      have hn : ¬ (64 ≤ (y 0).val) := fun hc => hy (Rect.mem_set_unit.mpr fun a => by
        have h0 : (y 0).val < 128 := (y 0).isLt
        have h1 : (y 1).val < 128 := (y 1).isLt
        match a with
        | ⟨0, _⟩ => exact ⟨hc, h0⟩
        | ⟨1, _⟩ => exact ⟨Nat.zero_le _, h1⟩)
      have h1 : (y 1).val < 128 := (y 1).isLt
      match a with
      | ⟨0, _⟩ => exact ⟨Nat.zero_le _, by show (y 0).val < 0 + 64; omega⟩
      | ⟨1, _⟩ => exact ⟨Nat.zero_le _, by show (y 1).val < 0 + 128; omega⟩
  rw [hZ]
  rw [wp_bind]
  iapply (sentsRun (wires A B) κ c 0 0)
  isplitr; · iexact HI
  isplitl [K00]; · iexact K00
  isplitl [T00]; · iexact T00
  isplitl [HO]; · iexact HO
  iintro ⟨B00, HO⟩
  rw [wp_bind]
  iapply (sentsRun (wires A B) κ c 0 1)
  isplitr; · iexact HI
  isplitl [K01]; · iexact K01
  isplitl [T01]; · iexact T01
  isplitl [HO]; · iexact HO
  iintro ⟨B01, HO⟩
  rw [wp_bind]
  iapply (sentsRun (wires A B) κ c 1 0)
  isplitr; · iexact HI
  isplitl [K10]; · iexact K10
  isplitl [T10]; · iexact T10
  isplitl [HO]; · iexact HO
  iintro ⟨B10, HO⟩
  rw [wp_bind]
  iapply (sentsRun (wires A B) κ c 1 1)
  isplitr; · iexact HI
  isplitl [K11]; · iexact K11
  isplitl [T11]; · iexact T11
  isplitl [HO]; · iexact HO
  iintro ⟨B11, HO⟩
  rw [wp_bind]
  iapply (sentsRun (wires A B) κ c 2 0)
  isplitr; · iexact HI
  isplitl [K20]; · iexact K20
  isplitl [T20]; · iexact T20
  isplitl [HO]; · iexact HO
  iintro ⟨B20, HO⟩
  iapply (sentsRun (wires A B) κ c 2 1)
  isplitr; · iexact HI
  isplitl [K21]; · iexact K21
  isplitl [T21]; · iexact T21
  isplitl [HO]; · iexact HO
  iintro ⟨B21, HO⟩
  iapply Hk
  isplitr [Hin HZ HO]
  · isplitl [Hbar]; · iexact Hbar
    unfold finish
    isplitl [B00 A00]; · isplitl [B00]; · iexact B00
                         iexact A00
    isplitl [B01 A01]; · isplitl [B01]; · iexact B01
                         iexact A01
    isplitl [B10 A10]; · isplitl [B10]; · iexact B10
                         iexact A10
    isplitl [B11 A11]; · isplitl [B11]; · iexact B11
                         iexact A11
    isplitl [B20 A20]; · isplitl [B20]; · iexact B20
                         iexact A20
    isplitl [B21]; · iexact B21
    iexact A21
  isplitl [Hin]; · iexact Hin
  isplitl [HZ]; · iexact HZ
  iexact HO

end Cert.KernelIdeal.Ring

end
-- ==== Proof.KernelIdeal.Scratch.lean ====
/-
# The kernel's two buffers, whole and block by block

The launch hands a device its send buffer and its receive buffer whole, at contents nobody knows, and wants them back so.
The body works on their blocks.
-/
module

public import proofs.«01_k».proof.Proof.KernelIdeal.Body
public import Idealize.ShloMosaic.Lib.Ring.FamCut

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The send buffer -/

/-- The elements of a block of the send buffer. -/
def sSet (p : Fin 3 × Fin 2) : Finset S3x2x64x128.Idx := (sR p.1 p.2).set

theorem sSet_disjoint (p p' : Fin 3 × Fin 2) (h : p ≠ p') : Disjoint (sSet p) (sSet p') := by
  obtain ⟨l, b⟩ := p
  obtain ⟨l', b'⟩ := p'
  by_cases hl : l = l'
  · have hb : b.val ≠ b'.val := fun e => h (by rw [hl, Fin.ext e])
    exact Rect.unit_disjoint (1 : Fin 4) (by show b.val + 1 ≤ b'.val ∨ b'.val + 1 ≤ b.val; omega)
  · have hl : l.val ≠ l'.val := fun e => hl (Fin.ext e)
    exact Rect.unit_disjoint (0 : Fin 4) (by show l.val + 1 ≤ l'.val ∨ l'.val + 1 ≤ l.val; omega)

theorem sSet_cover : Finset.univ.biUnion sSet = Finset.univ := Finset.eq_univ_iff_forall.mpr fun i =>
  Finset.mem_biUnion.mpr ⟨(⟨(i 0).val, (i 0).isLt⟩, ⟨(i 1).val, (i 1).isLt⟩), Finset.mem_univ _, Rect.mem_set_unit.mpr fun a => by
    have h2 : (i 2).val < 64 := (i 2).isLt
    have h3 : (i 3).val < 128 := (i 3).isLt
    fin_cases a
    · exact ⟨le_refl _, Nat.lt_succ_self _⟩
    · exact ⟨le_refl _, Nat.lt_succ_self _⟩
    · exact ⟨Nat.zero_le _, by show (i 2).val < 0 + 64; omega⟩
    · exact ⟨Nat.zero_le _, by show (i 3).val < 0 + 128; omega⟩⟩

/-- A block held at some contents is its elements held at some contents. -/
theorem sOwn_some (c : Dev nD) (p : Fin 3 × Fin 2) :
    (iprop(∃ X, sOwn fullShare c p.1 p.2 X) : sProp 𝕄)
      = iprop(∃ f : Buf (Elt F) ((c : Thread nD τ).loc cc0_scratch0), ((c : Thread nD τ).loc cc0_scratch0) ↦[sSet p]{fullShare} f) := by
  have hs : (sV sM p.1 p.2).view.set = sSet p := (Memref.set_view_squeeze _ _).trans (View.set_slice_whole _ _)
  have h1 : (iprop(∃ X, sOwn fullShare c p.1 p.2 X) : sProp 𝕄)
      ⊢ iprop(∃ f : Buf (Elt F) ((c : Thread nD τ).loc cc0_scratch0), ((c : Thread nD τ).loc cc0_scratch0) ↦[sSet p]{fullShare} f) := by
    unfold sOwn owns
    rw [hs]
    iintro ⟨%X, %f, -, H⟩
    iexists f; iexact H
  have h2 : (iprop(∃ f : Buf (Elt F) ((c : Thread nD τ).loc cc0_scratch0), ((c : Thread nD τ).loc cc0_scratch0) ↦[sSet p]{fullShare} f) : sProp 𝕄)
      ⊢ iprop(∃ X, sOwn fullShare c p.1 p.2 X) := by
    rw [← hs]
    iintro ⟨%f, H⟩
    iexists _
    iapply (owns_intro (c : Thread nD τ) (sV sM p.1 p.2) fullShare f) $$ H
  exact BI.equiv_iff.mp ⟨h1, h2⟩

/-- The send buffer whole is its blocks. -/
theorem sBuf_split (c : Dev nD) :
    (iprop(∃ f : Buf (Elt F) ((c : Thread nD τ).loc cc0_scratch0), ((c : Thread nD τ).loc cc0_scratch0) ↦{fullShare} f) : sProp 𝕄)
      ⊢ bigSep Finset.univ fun p : Fin 3 × Fin 2 => iprop(∃ X, sOwn fullShare c p.1 p.2 X) := by
  have h (f : Buf (Elt F) ((c : Thread nD τ).loc cc0_scratch0)) : ((((c : Thread nD τ).loc cc0_scratch0) ↦{fullShare} f) : sProp 𝕄)
      ⊢ bigSep Finset.univ fun p : Fin 3 × Fin 2 => iprop(∃ X, sOwn fullShare c p.1 p.2 X) := by
    rw [Idealize.ShloMosaic.Ring.pointsTo_blocks (ℓ := (c : Thread nD τ).loc cc0_scratch0) sSet sSet_disjoint sSet_cover f]
    have hm (p : Fin 3 × Fin 2) : ((((c : Thread nD τ).loc cc0_scratch0) ↦[sSet p]{fullShare} f) : sProp 𝕄)
        ⊢ iprop(∃ f : Buf (Elt F) ((c : Thread nD τ).loc cc0_scratch0), ((c : Thread nD τ).loc cc0_scratch0) ↦[sSet p]{fullShare} f) := by
      iintro H; iexists f; iexact H
    exact bigSep_mono fun p _ => (hm p).trans (Entails.of_eq (sOwn_some c p).symm)
  iintro ⟨%f, H⟩
  iapply (h f) $$ H

/-- The blocks are the send buffer whole. -/
theorem sBuf_join (c : Dev nD) (v : Elt F .bf16) :
    (bigSep Finset.univ fun p : Fin 3 × Fin 2 => iprop(∃ X, sOwn fullShare c p.1 p.2 X))
      ⊢ (iprop(∃ f : Buf (Elt F) ((c : Thread nD τ).loc cc0_scratch0), ((c : Thread nD τ).loc cc0_scratch0) ↦{fullShare} f) : sProp 𝕄) := by
  rw [show (fun p : Fin 3 × Fin 2 => (iprop(∃ X, sOwn fullShare c p.1 p.2 X) : sProp 𝕄)) = _ from funext (sOwn_some c)]
  exact Idealize.ShloMosaic.Ring.pointsTo_blocks_join_exists (ℓ := (c : Thread nD τ).loc cc0_scratch0) sSet sSet_disjoint sSet_cover (fun _ => v)

/-! ## The receive buffer -/

/-- The elements of a slot of the receive buffer. -/
def rSet (q : (Fin 3 × Fin 2) × Fin 3) : Finset S3x2x3x64x128.Idx := (rR q.1.1 q.1.2 q.2).set

theorem rSet_disjoint (q q' : (Fin 3 × Fin 2) × Fin 3) (h : q ≠ q') : Disjoint (rSet q) (rSet q') := by
  obtain ⟨⟨l, b⟩, s⟩ := q
  obtain ⟨⟨l', b'⟩, s'⟩ := q'
  by_cases hl : l = l'
  · by_cases hb : b = b'
    · have hs : s.val ≠ s'.val := fun e => h (by rw [hl, hb, Fin.ext e])
      exact Rect.unit_disjoint (2 : Fin 5) (by show s.val + 1 ≤ s'.val ∨ s'.val + 1 ≤ s.val; omega)
    · have hb : b.val ≠ b'.val := fun e => hb (Fin.ext e)
      exact Rect.unit_disjoint (1 : Fin 5) (by show b.val + 1 ≤ b'.val ∨ b'.val + 1 ≤ b.val; omega)
  · have hl : l.val ≠ l'.val := fun e => hl (Fin.ext e)
    exact Rect.unit_disjoint (0 : Fin 5) (by show l.val + 1 ≤ l'.val ∨ l'.val + 1 ≤ l.val; omega)

theorem rSet_cover : Finset.univ.biUnion rSet = Finset.univ := Finset.eq_univ_iff_forall.mpr fun i =>
  Finset.mem_biUnion.mpr ⟨((⟨(i 0).val, (i 0).isLt⟩, ⟨(i 1).val, (i 1).isLt⟩), ⟨(i 2).val, (i 2).isLt⟩), Finset.mem_univ _,
    Rect.mem_set_unit.mpr fun a => by
      have h3 : (i 3).val < 64 := (i 3).isLt
      have h4 : (i 4).val < 128 := (i 4).isLt
      fin_cases a
      · exact ⟨le_refl _, Nat.lt_succ_self _⟩
      · exact ⟨le_refl _, Nat.lt_succ_self _⟩
      · exact ⟨le_refl _, Nat.lt_succ_self _⟩
      · exact ⟨Nat.zero_le _, by show (i 3).val < 0 + 64; omega⟩
      · exact ⟨Nat.zero_le _, by show (i 4).val < 0 + 128; omega⟩⟩

/-- A slot held at some contents is its elements held at some contents. -/
theorem rOwn_some (c : Dev nD) (q : (Fin 3 × Fin 2) × Fin 3) :
    (iprop(∃ X, rOwn c q.1.1 q.1.2 q.2 X) : sProp 𝕄)
      = iprop(∃ f : Buf (Elt F) ((c : Thread nD τ).loc cc0_scratch1), ((c : Thread nD τ).loc cc0_scratch1) ↦[rSet q]{fullShare} f) := by
  have hs : (rV rM q.1.1 q.1.2 q.2).view.set = rSet q := (Memref.set_view_squeeze _ _).trans (View.set_slice_whole _ _)
  have h1 : (iprop(∃ X, rOwn c q.1.1 q.1.2 q.2 X) : sProp 𝕄)
      ⊢ iprop(∃ f : Buf (Elt F) ((c : Thread nD τ).loc cc0_scratch1), ((c : Thread nD τ).loc cc0_scratch1) ↦[rSet q]{fullShare} f) := by
    unfold rOwn owns
    rw [hs]
    iintro ⟨%X, %f, -, H⟩
    iexists f; iexact H
  have h2 : (iprop(∃ f : Buf (Elt F) ((c : Thread nD τ).loc cc0_scratch1), ((c : Thread nD τ).loc cc0_scratch1) ↦[rSet q]{fullShare} f) : sProp 𝕄)
      ⊢ iprop(∃ X, rOwn c q.1.1 q.1.2 q.2 X) := by
    rw [← hs]
    iintro ⟨%f, H⟩
    iexists _
    iapply (owns_intro (c : Thread nD τ) (rV rM q.1.1 q.1.2 q.2) fullShare f) $$ H
  exact BI.equiv_iff.mp ⟨h1, h2⟩

/-- The slots of the receive buffer, one after another, and block by block. -/
theorem bigSep_slots (Φ : Fin 3 → Fin 2 → Fin 3 → sProp 𝕄) :
    bigSep Finset.univ (fun q : (Fin 3 × Fin 2) × Fin 3 => Φ q.1.1 q.1.2 q.2)
      = bigSep Finset.univ fun p : Fin 3 × Fin 2 => tri fun s => Φ p.1 p.2 s := by
  rw [bigSep_univ_prod]
  exact bigSep_congr fun p _ => bigSep_W0 _

/-- The receive buffer whole is its slots. -/
theorem rBuf_split (c : Dev nD) :
    (iprop(∃ f : Buf (Elt F) ((c : Thread nD τ).loc cc0_scratch1), ((c : Thread nD τ).loc cc0_scratch1) ↦{fullShare} f) : sProp 𝕄)
      ⊢ bigSep Finset.univ fun q : (Fin 3 × Fin 2) × Fin 3 => iprop(∃ X, rOwn c q.1.1 q.1.2 q.2 X) := by
  have h (f : Buf (Elt F) ((c : Thread nD τ).loc cc0_scratch1)) : ((((c : Thread nD τ).loc cc0_scratch1) ↦{fullShare} f) : sProp 𝕄)
      ⊢ bigSep Finset.univ fun q : (Fin 3 × Fin 2) × Fin 3 => iprop(∃ X, rOwn c q.1.1 q.1.2 q.2 X) := by
    rw [Idealize.ShloMosaic.Ring.pointsTo_blocks (ℓ := (c : Thread nD τ).loc cc0_scratch1) rSet rSet_disjoint rSet_cover f]
    have hm (q : (Fin 3 × Fin 2) × Fin 3) : ((((c : Thread nD τ).loc cc0_scratch1) ↦[rSet q]{fullShare} f) : sProp 𝕄)
        ⊢ iprop(∃ f : Buf (Elt F) ((c : Thread nD τ).loc cc0_scratch1), ((c : Thread nD τ).loc cc0_scratch1) ↦[rSet q]{fullShare} f) := by
      iintro H; iexists f; iexact H
    exact bigSep_mono fun q _ => (hm q).trans (Entails.of_eq (rOwn_some c q).symm)
  iintro ⟨%f, H⟩
  iapply (h f) $$ H

/-- The slots are the receive buffer whole. -/
theorem rBuf_join (c : Dev nD) (v : Elt F .bf16) :
    (bigSep Finset.univ fun q : (Fin 3 × Fin 2) × Fin 3 => iprop(∃ X, rOwn c q.1.1 q.1.2 q.2 X))
      ⊢ (iprop(∃ f : Buf (Elt F) ((c : Thread nD τ).loc cc0_scratch1), ((c : Thread nD τ).loc cc0_scratch1) ↦{fullShare} f) : sProp 𝕄) := by
  rw [show (fun q : (Fin 3 × Fin 2) × Fin 3 => (iprop(∃ X, rOwn c q.1.1 q.1.2 q.2 X) : sProp 𝕄)) = _ from funext (rOwn_some c)]
  exact Idealize.ShloMosaic.Ring.pointsTo_blocks_join_exists (ℓ := (c : Thread nD τ).loc cc0_scratch1) rSet rSet_disjoint rSet_cover (fun _ => v)

end Cert.KernelIdeal.Ring

end
-- ==== Proof.KernelIdeal.Open.lean ====
/-
# From the launch to the body and back

The launch hands every device tokens for its payments, the rights to open its own semaphores' cells, and the rights to
wait that the other devices' debts are worth. Here they become what the body starts from; and what the body leaves becomes
what the launch takes back.
-/
module

public import proofs.«01_k».proof.Proof.KernelIdeal.Scratch

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)

variable {F : FTy → Type} [FloatOps F]

local notation "𝕄" => MT nD τ sig ℕ (Elt F) ℕ UU ℕ

/-! ## Cells and tokens, block by block -/

/-- Something of every one of a device's own semaphores, block by block. -/
theorem byPlace (Φ : GSem nD τ sig → sProp 𝕄) (c : Dev nD) :
    bigSep Finset.univ (fun k : K => Φ ((c : Thread nD τ), osem k))
      = bigSep Finset.univ fun p : Fin 3 × Fin 2 => iprop((tri fun j => Φ (sendCell c p.1 p.2 j)) ∗ tri fun s => Φ (recvCell c p.1 p.2 s)) := by
  rw [bigSep_univ_prod]
  refine bigSep_congr fun p _ => ?_
  rw [bigSep_univ_prod]
  refine (bigSep_fin_two _).trans ?_
  have h0 : bigSep Finset.univ (fun j : Fin 3 => Φ ((c : Thread nD τ), osem (p, (0 : Fin 2), j))) = tri fun j => Φ (sendCell c p.1 p.2 j) := by
    simp only [osem_send]; exact bigSep_W0 _
  have h1 : bigSep Finset.univ (fun j : Fin 3 => Φ ((c : Thread nD τ), osem (p, (1 : Fin 2), j))) = tri fun s => Φ (recvCell c p.1 p.2 s) := by
    simp only [osem_recv]; exact bigSep_W0 _
  rw [h0, h1]
  rfl

/-- The tokens of a device's payments: of its signals, and block by block of its sends. -/
theorem toks_eq (c : Dev nD) : (bigSep (fam.toks c 0) fun x => (dutyTok ER x.1 x.2.1 x.2.2 : sProp 𝕄))
    = iprop((tri fun i => dutyTok ER (barCell (peer c i)) 0 (rev i))
      ∗ bigSep Finset.univ fun p : Fin 3 × Fin 2 => iprop((tri fun j => dutyTok ER (sendCell c p.1 p.2 j) 0 0)
        ∗ tri fun j => dutyTok ER (recvCell (peer c j) p.1 p.2 (rev j)) 0 0)) := by
  show bigSep (Finset.univ.map ⟨tokOf c, tokOf_inj c⟩) (fun x => (dutyTok ER x.1 x.2.1 x.2.2 : sProp 𝕄)) = _
  rw [bigSep_map]
  refine (BI.bigSep_univ_sum _).trans ?_
  have h0 : bigSep Finset.univ (fun i : Fin 3 => (dutyTok ER (tokOf c (.inl i)).1 (tokOf c (.inl i)).2.1 (tokOf c (.inl i)).2.2 : sProp 𝕄))
      = tri fun i => dutyTok ER (barCell (peer c i)) 0 (rev i) := bigSep_W0 _
  have h1 : bigSep Finset.univ (fun k : K => (dutyTok ER (tokOf c (.inr k)).1 (tokOf c (.inr k)).2.1 (tokOf c (.inr k)).2.2 : sProp 𝕄))
      = bigSep Finset.univ fun p : Fin 3 × Fin 2 => iprop((tri fun j => dutyTok ER (sendCell c p.1 p.2 j) 0 0)
        ∗ tri fun j => dutyTok ER (recvCell (peer c j) p.1 p.2 (rev j)) 0 0) := by
    rw [bigSep_univ_prod]
    refine bigSep_congr fun p _ => ?_
    rw [bigSep_univ_prod]
    refine (bigSep_fin_two _).trans ?_
    have e0 : bigSep Finset.univ (fun j : Fin 3 => (dutyTok ER (tokOf c (.inr (p, (0 : Fin 2), j))).1 (tokOf c (.inr (p, (0 : Fin 2), j))).2.1
        (tokOf c (.inr (p, (0 : Fin 2), j))).2.2 : sProp 𝕄)) = tri fun j => dutyTok ER (sendCell c p.1 p.2 j) 0 0 := bigSep_W0 _
    have e1 : bigSep Finset.univ (fun j : Fin 3 => (dutyTok ER (tokOf c (.inr (p, (1 : Fin 2), j))).1 (tokOf c (.inr (p, (1 : Fin 2), j))).2.1
        (tokOf c (.inr (p, (1 : Fin 2), j))).2.2 : sProp 𝕄)) = tri fun j => dutyTok ER (recvCell (peer c j) p.1 p.2 (rev j)) 0 0 := bigSep_W0 _
    exact congrArg₂ (fun P Q : sProp 𝕄 => iprop(P ∗ Q)) e0 e1
  exact congrArg₂ (fun P Q : sProp 𝕄 => iprop(P ∗ Q)) h0 h1

/-! ## The rights to wait -/

/-- The debts of a device by what they are for: a signal, or a send of a block. -/
abbrev debts : List (Fin 3 ⊕ (Fin 3 × Fin 2) × Fin 3) :=
  [.inl 0, .inl 1, .inl 2] ++ order.flatMap fun p => [.inr (p, 1), .inr (p, 0), .inr (p, 2)]

/-- The peer a debt is owed to, -/
def toward (d : Dev nD) : Fin 3 ⊕ (Fin 3 × Fin 2) × Fin 3 → Dev nD
  | .inl i => peer d i
  | .inr (_, j) => peer d j

/-- and the payment on it, on a given device. -/
def payAt (d : Dev nD) : Fin 3 ⊕ (Fin 3 × Fin 2) × Fin 3 → Pay nD τ sig
  | .inl _ => (barCell d, 1, 1)
  | .inr (p, j) => (recvCell d p.1 p.2 (rev j), lvl p.1 p.2, N)

theorem due_eq (d : Dev nD) : due d = debts.map fun x => payAt (toward d x) x := rfl

theorem toward_bij (x : Fin 3 ⊕ (Fin 3 × Fin 2) × Fin 3) : Function.Bijective fun d => toward d x := by
  have h (j : Fin 3) : Function.Bijective fun d => peer d j := by revert j; decide
  rcases x with i | ⟨_, j⟩
  · exact h i
  · exact h j

/-- All the devices' debts are what is owed to every device. -/
theorem sum_due : (∑ d : Dev nD, tallyL (due d)) = ∑ d : Dev nD, tallyL (debts.map (payAt d)) := by
  simp only [due_eq]
  generalize debts = l
  induction l with
  | nil => rfl
  | cons x l ih =>
    simp only [List.map_cons, TalkSites.tallyL, Finset.sum_add_distrib]
    rw [ih]
    congr 1
    exact Function.Bijective.sum_comp (toward_bij x) fun d => (payAt d x).tally

/-- The rights to wait of a device. -/
def creds (c : Dev nD) : sProp 𝕄 :=
  iprop(cred (tallyAt (barCell c) 1 3)
    ∗ bigSep Finset.univ fun p : Fin 3 × Fin 2 => tri fun s => cred (tallyAt (recvCell c p.1 p.2 s) (lvl p.1 p.2) N))

/-- The launch deals every device the rights to wait for what it is owed. -/
theorem launchCred_creds (c : Dev nD) : (Pipeline.launchCred (fun d => tallyL (due d)) c : sProp 𝕄) ⊢ creds c := by
  rw [Pipeline.launchCred_of_sum _ (fun d => tallyL (debts.map (payAt d))) sum_due (fun d g hg => by
    obtain ⟨i, hi⟩ := DFunLike.ne_iff.mp hg
    obtain ⟨x, hx, rfl, -⟩ := TalkSites.tallyL_pos (Nat.pos_of_ne_zero hi)
    obtain ⟨y, -, rfl⟩ := List.mem_map.mp hx
    rcases y with _ | _ <;> rfl) c]
  have hb : iprop(cred (tallyAt (barCell c) 1 1) ∗ cred (tallyAt (barCell c) 1 1) ∗ cred (tallyAt (barCell c) 1 1))
      ⊢ (cred (tallyAt (barCell c) 1 3) : sProp 𝕄) := by
    rw [show (tallyAt (barCell c) 1 3 : CellTallies nD τ sig ℕ) = tallyAt (barCell c) 1 1 + (tallyAt (barCell c) 1 1 + tallyAt (barCell c) 1 1) from by
      rw [tallyAt_add, tallyAt_add]]
    iintro ⟨H1, H2, H3⟩
    iapply (cred_add _ _).2
    isplitl [H1]; · iexact H1
    iapply (cred_add _ _).2
    isplitl [H2] <;> iassumption
  unfold creds
  rw [TalkSites.cred_tallyL, bigSep_six (fun l b => tri fun s => cred (tallyAt (recvCell c l b s) (lvl l b) N))]
  show iprop(cred (tallyAt (barCell c) 1 1) ∗ cred (tallyAt (barCell c) 1 1) ∗ cred (tallyAt (barCell c) 1 1)
    ∗ cred (tallyAt (recvCell c 0 0 1) (lvl 0 0) N) ∗ cred (tallyAt (recvCell c 0 0 2) (lvl 0 0) N) ∗ cred (tallyAt (recvCell c 0 0 0) (lvl 0 0) N)
    ∗ cred (tallyAt (recvCell c 0 1 1) (lvl 0 1) N) ∗ cred (tallyAt (recvCell c 0 1 2) (lvl 0 1) N) ∗ cred (tallyAt (recvCell c 0 1 0) (lvl 0 1) N)
    ∗ cred (tallyAt (recvCell c 1 0 1) (lvl 1 0) N) ∗ cred (tallyAt (recvCell c 1 0 2) (lvl 1 0) N) ∗ cred (tallyAt (recvCell c 1 0 0) (lvl 1 0) N)
    ∗ cred (tallyAt (recvCell c 1 1 1) (lvl 1 1) N) ∗ cred (tallyAt (recvCell c 1 1 2) (lvl 1 1) N) ∗ cred (tallyAt (recvCell c 1 1 0) (lvl 1 1) N)
    ∗ cred (tallyAt (recvCell c 2 0 1) (lvl 2 0) N) ∗ cred (tallyAt (recvCell c 2 0 2) (lvl 2 0) N) ∗ cred (tallyAt (recvCell c 2 0 0) (lvl 2 0) N)
    ∗ cred (tallyAt (recvCell c 2 1 1) (lvl 2 1) N) ∗ cred (tallyAt (recvCell c 2 1 2) (lvl 2 1) N) ∗ cred (tallyAt (recvCell c 2 1 0) (lvl 2 1) N)) ⊢ _
  iintro ⟨B0, B1, B2, P1, P2, P0, Q1, Q2, Q0, R1, R2, R0, S1, S2, S0, T1, T2, T0, U1, U2, U0⟩
  isplitl [B0 B1 B2]
  · iapply hb
    isplitl [B0]; · iexact B0
    isplitl [B1] <;> iassumption
  isplitl [P0 P1 P2]
  · isplitl [P0]; · iexact P0
    isplitl [P1] <;> iassumption
  isplitl [Q0 Q1 Q2]
  · isplitl [Q0]; · iexact Q0
    isplitl [Q1] <;> iassumption
  isplitl [R0 R1 R2]
  · isplitl [R0]; · iexact R0
    isplitl [R1] <;> iassumption
  isplitl [S0 S1 S2]
  · isplitl [S0]; · iexact S0
    isplitl [S1] <;> iassumption
  isplitl [T0 T1 T2]
  · isplitl [T0]; · iexact T0
    isplitl [T1] <;> iassumption
  isplitl [U0]; · iexact U0
  isplitl [U1] <;> iassumption

/-! ## Opening -/

section Open

variable (W : Fin 3 → Fin 2 → Dev nD → FVec F S64x128 .bf16)

/-- What a device's launch keeps for its kernel: what the family's launch made, and the rights to wait. -/
def kit (c : Dev nD) : sProp 𝕄 := iprop(fam.launched ER (rd W) (fun _ => Finset.univ) c ∗ creds c)

/-- What a device has of a block once its cells are open, its buffers apart. -/
def opened (c : Dev nD) (l : Fin 3) (b : Fin 2) : sProp 𝕄 :=
  iprop((tri fun j => sendTok c l b j) ∗ kept c l b ∗ awaited c l b ∗ tri fun s => reached ER (recvCell c l b s) 0)

/-- What a device has once its cells are open, its buffers apart. -/
def ready0 (c : Dev nD) : sProp 𝕄 :=
  iprop((∃ κ, invs W κ) ∗ levAts (SiteBlocks.L nLv) SiteBlocks.lv ∗ (tri fun i => sigTok c i) ∗ atPos ER (barCell c) 0 ∅ 0
    ∗ cred (tallyAt (barCell c) 1 3) ∗ bigSep Finset.univ fun p : Fin 3 × Fin 2 => opened c p.1 p.2)

/-- A device's own cells opened. -/
theorem openCells (κ : GSem nD τ sig → ℕ) (c : Dev nD) :
    iprop(invs W κ ∗ bigSep Finset.univ fun k : K => iprop(openTok ER ((c : Thread nD τ), osem k) ∗ semVal ((c : Thread nD τ), osem k) 0))
      ⊢ (|={Set.univ}=> bigSep Finset.univ fun k : K => iprop(atPos ER ((c : Thread nD τ), osem k) 0 ∅ 0 ∗ reached ER ((c : Thread nD τ), osem k) 0) : sProp 𝕄) := by
  have h1 (k : K) : iprop(invs W κ ∗ (openTok ER ((c : Thread nD τ), osem k) ∗ semVal ((c : Thread nD τ), osem k) 0))
      ⊢ (|={Set.univ}=> (atPos ER ((c : Thread nD τ), osem k) 0 ∅ 0 ∗ reached ER ((c : Thread nD τ), osem k) 0) : sProp 𝕄) := by
    iintro ⟨#HI, Ho, Hv⟩
    iapply (Rounds.cell_open ER (rd W) (g := ((c : Thread nD τ), osem k)) (Set.mem_univ (κ ((c : Thread nD τ), osem k))))
    isplitr
    · iapply (fam.cellInvs_dorm ER (rd W) κ c (j := 0) (Finset.mem_map.mpr ⟨k, Finset.mem_univ _, rfl⟩)); iexact HI
    isplitl [Ho] <;> iassumption
  exact (bigSep_with_persistent (R := invs W κ) fun k _ => h1 k).trans (bigSep_fupd _ _)

/-- What a device has of a block, one thing after another, put together. -/
theorem opened_intro (c : Dev nD) (l : Fin 3) (b : Fin 2) :
    iprop(((tri fun j => iprop(atPos ER (sendCell c l b j) 0 ∅ 0 ∗ reached ER (sendCell c l b j) 0))
          ∗ tri fun s => iprop(atPos ER (recvCell c l b s) 0 ∅ 0 ∗ reached ER (recvCell c l b s) 0))
        ∗ ((tri fun j => dutyTok ER (sendCell c l b j) 0 0) ∗ tri fun j => dutyTok ER (recvCell (peer c j) l b (rev j)) 0 0)
        ∗ tri fun s => cred (tallyAt (recvCell c l b s) (lvl l b) N))
      ⊢ (opened c l b : sProp 𝕄) := by
  unfold opened sendTok kept awaited
  iintro ⟨⟨⟨⟨A0, #R0⟩, ⟨A1, #R1⟩, ⟨A2, #R2⟩⟩, ⟨⟨B0, #S0⟩, ⟨B1, #S1⟩, ⟨B2, #S2⟩⟩⟩, ⟨⟨T0, T1, T2⟩, ⟨U0, U1, U2⟩⟩, ⟨C0, C1, C2⟩⟩
  isplitl [T0 T1 T2 U0 U1 U2]
  · isplitl [T0 U0]
    · isplitl [T0]; · iexact T0
      isplitr; · iexact R0
      iexact U0
    isplitl [T1 U1]
    · isplitl [T1]; · iexact T1
      isplitr; · iexact R1
      iexact U1
    isplitl [T2]; · iexact T2
    isplitr; · iexact R2
    iexact U2
  isplitl [A0 A1 A2]
  · isplitl [A0]; · iexact A0
    isplitl [A1] <;> iassumption
  isplitl [B0 B1 B2 C0 C1 C2]
  · isplitl [B0 C0]; · isplitl [B0] <;> iassumption
    isplitl [B1 C1]; · isplitl [B1] <;> iassumption
    isplitl [B2] <;> iassumption
  isplitr; · iexact S0
  isplitr; · iexact S1
  iexact S2

/-- The kernel's launch on a device: its own semaphores, at zero, come under the protocol. -/
theorem openKit (c : Dev nD) : iprop(kit W c ∗ Pipeline.ownSems0 osem c ∗ levAts (SiteBlocks.L nLv) SiteBlocks.lv)
    ⊢ (|={Set.univ}=> ready0 W c : sProp 𝕄) := by
  have hj : (bigSep Finset.univ fun j : Fin 1 => fam.rides ER (rd W) c j : sProp 𝕄) = fam.rides ER (rd W) c 0 := by
    rw [show (Finset.univ : Finset (Fin 1)) = {0} from rfl, bigSep_singleton]
  have hd : (bigSep (fam.dorm 0) fun sm => (openTok ER ((c.tc : Thread nD τ), sm) : sProp 𝕄))
      = bigSep Finset.univ fun k : K => openTok ER ((c : Thread nD τ), osem k) := bigSep_map _
  have h1 (i : Fin 3) : (bigSep Finset.univ fun n : Dev nD => (reached ER ((n.tc : Thread nD τ), fam.bar) 0 : sProp 𝕄))
      ⊢ (reached ER (barCell (peer c i)) 0 : sProp 𝕄) := bigSep_elim (Finset.mem_univ (peer c i))
  have hr : (bigSep ((fun _ : Dev nD => Finset.univ) c) fun n : Dev nD => (reached ER ((n.tc : Thread nD τ), fam.bar) 0 : sProp 𝕄))
      ⊢ tri fun i => (reached ER (barCell (peer c i)) 0 : sProp 𝕄) := by
    iintro #H
    isplitr; · iapply (h1 0); iexact H
    isplitr; · iapply (h1 1); iexact H
    iapply (h1 2); iexact H
  unfold kit Fam.launched Fam.barPos ready0 creds sigTok Pipeline.ownSems0
  rw [hj]
  unfold Fam.rides
  rw [hd, toks_eq]
  iintro ⟨⟨⟨⟨-, Hat, Hr⟩, ⟨⟨%κ, #HI⟩, Ho, ⟨T0, T1, T2⟩, Ht⟩⟩, Hcb, Hc⟩, Hs, #Hlev⟩
  ihave Hr := hr $$ Hr
  icases Hr with ⟨R0, R1, R2⟩
  imod (openCells W κ c) $$ [Ho Hs] with Hk
  · isplitr; · iexact HI
    iapply (Entails.of_eq (bigSep_sep' Finset.univ (fun k : K => openTok ER ((c : Thread nD τ), osem k)) (fun k : K => (semVal ((c : Thread nD τ), osem k) 0 : sProp 𝕄))).symm)
    isplitl [Ho] <;> iassumption
  imodintro
  isplitr; · iexists κ; iexact HI
  isplitr; · iexact Hlev
  isplitl [T0 T1 T2 R0 R1 R2]
  · isplitl [T0 R0]; · isplitl [T0] <;> iassumption
    isplitl [T1 R1]; · isplitl [T1] <;> iassumption
    isplitl [T2] <;> iassumption
  isplitl [Hat]; · iexact Hat
  isplitl [Hcb]; · iexact Hcb
  ihave Hk := (Entails.of_eq (byPlace (fun g => iprop(atPos ER g 0 ∅ 0 ∗ reached ER g 0)) c)) $$ Hk
  iapply (show iprop((bigSep Finset.univ fun p : Fin 3 × Fin 2 => iprop((tri fun j => iprop(atPos ER (sendCell c p.1 p.2 j) 0 ∅ 0 ∗ reached ER (sendCell c p.1 p.2 j) 0))
          ∗ tri fun s => iprop(atPos ER (recvCell c p.1 p.2 s) 0 ∅ 0 ∗ reached ER (recvCell c p.1 p.2 s) 0)))
        ∗ (bigSep Finset.univ fun p : Fin 3 × Fin 2 => iprop((tri fun j => dutyTok ER (sendCell c p.1 p.2 j) 0 0) ∗ tri fun j => dutyTok ER (recvCell (peer c j) p.1 p.2 (rev j)) 0 0))
        ∗ bigSep Finset.univ fun p : Fin 3 × Fin 2 => tri fun s => cred (tallyAt (recvCell c p.1 p.2 s) (lvl p.1 p.2) N))
      ⊢ (bigSep Finset.univ fun p : Fin 3 × Fin 2 => opened c p.1 p.2 : sProp 𝕄) from by
    rw [← bigSep_sep', ← bigSep_sep']
    exact bigSep_mono fun p _ => opened_intro c p.1 p.2)
  isplitl [Hk]; · iexact Hk
  isplitl [Ht] <;> iassumption

/-! ## Into the body and out of it -/

/-- The scratch buffers of a device, whole. -/
def whole (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- A block of the send buffer and what is open of the block are what the block's run starts from, the receive cells' being open
apart. -/
theorem start_intro (c : Dev nD) (l : Fin 3) (b : Fin 2) : iprop((∃ X, sOwn fullShare c l b X) ∗ opened c l b)
    ⊢ (iprop(start c l b ∗ tri fun s => reached ER (recvCell c l b s) 0) : sProp 𝕄) := by
  unfold opened start
  iintro ⟨HX, Ht, Hk, Ha, Hr⟩
  isplitr [Hr]
  · isplitl [HX]; · iexact HX
    isplitl [Ht]; · iexact Ht
    isplitl [Hk] <;> iassumption
  iexact Hr

/-- The slots of the receive buffer, their cells open, are what the body's three signals give away. -/
theorem slots_intro (c : Dev nD) :
    iprop((bigSep Finset.univ fun p : Fin 3 × Fin 2 => tri fun s => iprop(∃ X, rOwn c p.1 p.2 s X))
      ∗ bigSep Finset.univ fun p : Fin 3 × Fin 2 => tri fun s => reached ER (recvCell c p.1 p.2 s) 0)
      ⊢ (tri (slots c) : sProp 𝕄) := by
  show _ ⊢ (iprop(slots c 0 ∗ slots c 1 ∗ slots c 2) : sProp 𝕄)
  unfold slots
  rw [← bigSep_sep', ← bigSep_sep', ← bigSep_sep']
  have h (p : Fin 3 × Fin 2) : iprop((tri fun s => iprop(∃ X, rOwn c p.1 p.2 s X)) ∗ tri fun s => reached ER (recvCell c p.1 p.2 s) 0)
      ⊢ (iprop(((∃ X, rOwn c p.1 p.2 0 X) ∗ reached ER (recvCell c p.1 p.2 0) 0) ∗ ((∃ X, rOwn c p.1 p.2 1 X) ∗ reached ER (recvCell c p.1 p.2 1) 0)
        ∗ ((∃ X, rOwn c p.1 p.2 2 X) ∗ reached ER (recvCell c p.1 p.2 2) 0)) : sProp 𝕄) := by
    iintro ⟨⟨X0, X1, X2⟩, ⟨R0, R1, R2⟩⟩
    isplitl [X0 R0]; · isplitl [X0] <;> iassumption
    isplitl [X1 R1]; · isplitl [X1] <;> iassumption
    isplitl [X2] <;> iassumption
  exact bigSep_mono fun p _ => h p

/-- The body's start, from what the launch opened and the scratch buffers. -/
theorem enter (A : WIn F) (B : XIn F) (c : Dev nD) :
    iprop(ready0 (wires A B) c ∗ whole c) ⊢ (iprop(∃ κ, bodyPre A B κ c) : sProp 𝕄) := by
  have hs : iprop((bigSep Finset.univ fun p : Fin 3 × Fin 2 => iprop(∃ X, sOwn fullShare c p.1 p.2 X))
        ∗ bigSep Finset.univ fun p : Fin 3 × Fin 2 => opened c p.1 p.2)
      ⊢ (iprop(six (start c) ∗ bigSep Finset.univ fun p : Fin 3 × Fin 2 => tri fun s => reached ER (recvCell c p.1 p.2 s) 0) : sProp 𝕄) := by
    rw [← bigSep_six, ← bigSep_sep', ← bigSep_sep']
    exact bigSep_mono fun p _ => start_intro c p.1 p.2
  have hb : (iprop(∃ f : Buf (Elt F) ((c : Thread nD τ).loc cc0_scratch1), ((c : Thread nD τ).loc cc0_scratch1) ↦{fullShare} f) : sProp 𝕄)
      ⊢ bigSep Finset.univ fun p : Fin 3 × Fin 2 => tri fun s => iprop(∃ X, rOwn c p.1 p.2 s X) :=
    (rBuf_split c).trans (Entails.of_eq (bigSep_slots fun l b s => iprop(∃ X, rOwn c l b s X)))
  unfold ready0 whole bodyPre
  iintro ⟨⟨⟨%κ, HI⟩, Hlev, Hsig, Hat, Hcb, Ho⟩, HS, HR⟩
  ihave HS := (sBuf_split c) $$ HS
  ihave HR := hb $$ HR
  ihave H := hs $$ [HS Ho]; · isplitl [HS] <;> iassumption
  icases H with ⟨Hst, Hr⟩
  iexists κ
  isplitl [HI]; · iexact HI
  isplitl [Hlev]; · iexact Hlev
  isplitl [Hsig]; · iexact Hsig
  isplitl [HR Hr]; · iapply (slots_intro c); isplitl [HR] <;> iassumption
  isplitl [Hat]; · iexact Hat
  isplitl [Hcb] <;> iassumption

/-- What a block's run leaves is its buffers and its semaphores, at zero. -/
theorem finish_elim (c : Dev nD) (l : Fin 3) (b : Fin 2) : (finish c l b : sProp 𝕄)
    ⊢ iprop((∃ X, sOwn fullShare c l b X) ∗ (tri fun s => iprop(∃ X, rOwn c l b s X))
      ∗ ((tri fun j => semVal (sendCell c l b j) 0) ∗ tri fun s => semVal (recvCell c l b s) 0)) := by
  unfold finish back arrived
  iintro ⟨⟨HX, Hs⟩, ⟨V0, X0⟩, ⟨V1, X1⟩, ⟨V2, X2⟩⟩
  isplitl [HX]; · iexact HX
  isplitl [X0 X1 X2]
  · isplitl [X0]; · iexact X0
    isplitl [X1] <;> iassumption
  isplitl [Hs]; · iexact Hs
  isplitl [V0]; · iexact V0
  isplitl [V1] <;> iassumption

/-- What the body leaves: the scratch buffers, whole, and the semaphores, at zero. -/
theorem leave (c : Dev nD) (v : Elt F .bf16) :
    (bodyPost c : sProp 𝕄) ⊢ iprop(semVal (barCell c) 0 ∗ whole c ∗ Pipeline.ownSems0 osem c) := by
  have hf : (six (finish c) : sProp 𝕄) ⊢ iprop((bigSep Finset.univ fun p : Fin 3 × Fin 2 => iprop(∃ X, sOwn fullShare c p.1 p.2 X))
      ∗ (bigSep Finset.univ fun p : Fin 3 × Fin 2 => tri fun s => iprop(∃ X, rOwn c p.1 p.2 s X))
      ∗ bigSep Finset.univ fun p : Fin 3 × Fin 2 => iprop((tri fun j => semVal (sendCell c p.1 p.2 j) 0) ∗ tri fun s => semVal (recvCell c p.1 p.2 s) 0)) := by
    rw [← bigSep_six, ← bigSep_sep', ← bigSep_sep']
    exact bigSep_mono fun p _ => finish_elim c p.1 p.2
  have hb : (bigSep Finset.univ fun p : Fin 3 × Fin 2 => tri fun s => iprop(∃ X, rOwn c p.1 p.2 s X))
      ⊢ (iprop(∃ f : Buf (Elt F) ((c : Thread nD τ).loc cc0_scratch1), ((c : Thread nD τ).loc cc0_scratch1) ↦{fullShare} f) : sProp 𝕄) :=
    (Entails.of_eq (bigSep_slots fun l b s => iprop(∃ X, rOwn c l b s X)).symm).trans (rBuf_join c v)
  unfold bodyPost whole Pipeline.ownSems0
  rw [byPlace (fun g => semVal g 0) c]
  iintro ⟨Hb, Hf⟩
  ihave Hf := hf $$ Hf
  icases Hf with ⟨HS, HR, HV⟩
  isplitl [Hb]; · iexact Hb
  isplitr [HV]
  · isplitl [HS]
    · iapply (sBuf_join c v); iexact HS
    iapply hb; iexact HR
  iexact HV

end Open

end Cert.KernelIdeal.Ring

end
-- ==== Proof.KernelIdeal.Launch.lean ====
/-
# The launch: `@main` on the four devices

The host operations join the weights, the region runs the kernel's body once on every device, and nothing follows. The region
is entered from the buffers, the ghost state of the protocol and the debts of the launch, and left with the buffers, the
result among them, and nothing owed.
-/
module

public import proofs.«01_k».proof.Proof.KernelIdeal.Open
public import proofs.«01_k».proof.Proof.Gen.KernelIdeal.Frame
public import Idealize.ShloMosaic.Lib.Pipeline.RegionTalk

@[expose] public section

set_option maxRecDepth 16384

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Idealize.ShloMosaic.TalkSites (Pay tallyL Fam)

variable {F : FTy → Type} [FloatOps F]

local notation "𝕄" => MT nD τ sig ℕ (Elt F) ℕ UU ℕ

variable (m : (ℓ : Loc nD τ sig) → Buf (Elt F) ℓ) (ρ : Dev nD → PrngReg)

/-! ## Values -/

/-- The joined input weights of a device, as its kernel finds them, -/
def wcat : WIn F := fun c => V m c main_v1
/-- the rows and the joined output weights, -/
def xcat : XIn F := fun c => V m c main_v2
/-- and the result. -/
abbrev res (c : Dev nD) : FVec F S128x128 .f32 := outV (wcat m) (xcat m) c

/-- A device's buffers at launch, -/
abbrev V₀ (c : Dev nD) : Valuation τ sig (Elt F) := fun b => m (c, b)
/-- when the region is entered, -/
abbrev V₁ (c : Dev nD) : Valuation τ sig (Elt F) := StableHlo.after hostOps0 (V₀ m c)
/-- and when it is left. -/
def V₂ (c : Dev nD) : Valuation τ sig (Elt F) := Function.update (V₁ m c) (Proc.devRef .tc main_v3) (res m c)

theorem V₂_res (c : Dev nD) : V₂ m c (Proc.devRef .tc main_v3) = res m c := Function.update_self ..
theorem V₂_ne (c : Dev nD) (b : Ref sig .tc) (h : b ≠ main_v3) : V₂ m c (Proc.devRef .tc b) = V m c b :=
  Function.update_of_ne (StableHlo.devRef_ne_of_ne h) ..

/-! ## The proof data -/

/-- The debts of a device at launch. -/
abbrev O₀ (c : Dev nD) : CellTallies nD τ sig ℕ := tallyL (due c)

/-- Before the body: what the launch opened; after it: the barrier's semaphore and the kernel's own, at zero. The scratch buffers
whole and the generator register either way. -/
def inv0 (c : Dev nD) : sProp 𝕄 := iprop(ready0 (wires (wcat m) (xcat m)) c ∗ whole c ∗ ∃ r, prngReg c r)
@[inherit_doc inv0] def inv1 (c : Dev nD) : sProp 𝕄 := iprop(semVal (barCell c) 0 ∗ whole c ∗ Pipeline.ownSems0 osem c ∗ ∃ r, prngReg c r)

/-- The region's proof data: the inputs' staging keeps what it fetched, the output's is left at the result. -/
def dat (c : Dev nD) : Dat τ (Elt F) ℕ ℕ UU ℕ cfg0 c where
  A w := V m c (Pipeline.arrRef spec0 w)
  after := fun | 0 => fun _ => wcat m c | 1 => fun _ => xcat m c | 2 => fun _ => res m c | ⟨_ + 3, h⟩ => absurd h (Nat.not_lt.2 (Nat.le_add_left _ _))
  Φ t := if t.val = 0 then inv0 m c else inv1 c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat m
  | ⟨_ + 1, h⟩ => absurd h (Nat.not_lt.2 (Nat.le_add_left _ _))

theorem iblk_0 (c : Dev nD) (t : Fin cfg0.N) : iblk m c 0 t = wcat m c := by
  obtain rfl := fin_N0 t
  funext j
  refine congrArg (V m c main_v1) (funext fun a => Fin.ext ?_)
  fin_cases a <;> exact (Nat.zero_add _).trans (Nat.one_mul _)
theorem iblk_1 (c : Dev nD) (t : Fin cfg0.N) : iblk m c 1 t = xcat m c := by
  obtain rfl := fin_N0 t
  funext j
  refine congrArg (V m c main_v2) (funext fun a => Fin.ext ?_)
  fin_cases a <;> exact (Nat.zero_add _).trans (Nat.one_mul _)

theorem before_0 (c : Dev nD) (t : Fin cfg0.N) (d) : (dat m c).before 0 t d = wcat m c :=
  ((dat m c).before_in_eq_fetched 0 rfl (fun _ => rfl) (fun _ _ _ => rfl) (fun t => (iblk_0 m c t).symm) t d).trans (iblk_0 m c t)
theorem before_1 (c : Dev nD) (t : Fin cfg0.N) (d) : (dat m c).before 1 t d = xcat m c :=
  ((dat m c).before_in_eq_fetched 1 rfl (fun _ => rfl) (fun _ _ _ => rfl) (fun t => (iblk_1 m c t).symm) t d).trans (iblk_1 m c t)

theorem owed_zero (c : Dev nD) : (pdats (F := F) m 0 c).owed 0 = O₀ c := by
  show (if ((0 : Fin (cfg0.N + 1)).val = 0) then O₀ c else 0) = O₀ c; exact if_pos rfl
theorem owed_first (c : Dev nD) : (dat m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-- What a body owes within its region, out of it and into it. -/
theorem owing_intro (c : Dev nD) (t : Fin (cfg0.N + 1)) (l : List (Pay nD τ sig)) (h : (dat m c).owed t = tallyL l) :
    ((dat m c).owesAt 0 t : sProp 𝕄) ⊢ owing c l := by
  unfold Dat.owesAt Pipeline.owesWithin owing; rw [h]
  iintro ⟨%W, -, HO⟩; iexists W; iexact HO
@[inherit_doc owing_intro] theorem owing_elim (c : Dev nD) (t : Fin (cfg0.N + 1)) (l : List (Pay nD τ sig)) (h : (dat m c).owed t = tallyL l) :
    (owing c l : sProp 𝕄) ⊢ (dat m c).owesAt 0 t := by
  unfold Dat.owesAt Pipeline.owesWithin Dat.bound owing; rw [h]
  iintro ⟨%W, HO⟩; iexists W; isplitr; · ipureintro; exact fun _ _ => Or.inl trivial
  iexact HO

/-! ## The body's obligation -/

/-- The body at its one point, from what the region hands it to what it hands back. -/
theorem body (c : Dev nD) : BodyObligation (dat m c) defs₀ 𝒱₀ 0 Set.univ := fun t => by
  obtain rfl := fin_N0 t
  rw [bigSep_W0, bigSep_W0]
  rw [show (dat m c).Φ t0_0.castSucc = inv0 m c from rfl, show (dat m c).Φ t0_0.succ = inv1 c from rfl]
  have he := owing_elim m c t0_0.succ [] (owed_last m c)
  show iprop(inv0 m c ∗ (dat m c).owesAt 0 t0_0.castSucc ∗ (∃ d, owns c (st0_0 t0_0) fullShare ((dat m c).before 0 t0_0 d))
      ∗ (∃ d, owns c (st0_1 t0_0) fullShare ((dat m c).before 1 t0_0 d)) ∗ (∃ d, owns c (st0_2 t0_0) fullShare ((dat m c).before 2 t0_0 d)))
    ⊢ wp frame (wpE defs₀ 𝒱₀ c none) Set.univ (bodyAt0 t0_0) fun _ => iprop(inv1 c ∗ (dat m c).owesAt 0 t0_0.succ
      ∗ owns c (st0_0 t0_0) fullShare (wcat m c) ∗ owns c (st0_1 t0_0) fullShare (xcat m c) ∗ owns c (st0_2 t0_0) fullShare (res m c))
  simp only [before_0, before_1]
  rw [show bodyAt0 (F := F) t0_0 = bodyP (st0_0 t0_0) (st0_1 t0_0) (st0_2 t0_0) sM (Memref.isWhole_whole _) rM (Memref.isWhole_whole _) cc0_scratch2 cc0_scratch3
    from body_eq ..]
  unfold inv0 inv1
  iintro ⟨⟨Hr, Hw, Hp⟩, HO, ⟨%d0, H0⟩, ⟨%d1, H1⟩, ⟨%d2, H2⟩⟩
  ihave HB := (enter (wcat m) (xcat m) c) $$ [Hr Hw]; · isplitl [Hr] <;> iassumption
  icases HB with ⟨%κ, HB⟩
  ihave HO := (owing_intro m c t0_0.castSucc (due c) (owed_first m c)) $$ HO
  iapply (bodyRun (wcat m) (xcat m) κ (st0_0 t0_0) (st0_1 t0_0) (st0_2 t0_0) c _)
  isplitl [HB]; · iexact HB
  isplitl [H0 H1]
  · unfold ins
    isplitl [H0] <;> iassumption
  isplitl [H2]; · iexists _; iexact H2
  isplitl [HO]; · iexact HO
  unfold ins
  iintro ⟨HP, ⟨H0, H1⟩, H2, HO⟩
  ihave HP := (leave c (wires (wcat m) (xcat m) 0 0 c (ix2 (n0 := 64) (n1 := 128) 0 0))) $$ HP
  icases HP with ⟨Hb, Hw, Hs⟩
  isplitl [Hb Hw Hs Hp]
  · isplitl [Hb]; · iexact Hb
    isplitl [Hw]; · iexact Hw
    isplitl [Hs] <;> iassumption
  isplitl [HO]; · iapply he; iexact HO
  isplitl [H0]; · iexact H0
  isplitl [H1] <;> iassumption

/-! ## The region -/

/-- The arguments' buffers: the region neither stages nor addresses them. -/
abbrev args : Finset (DevRef τ sig) := Pipeline.ucRefs τ sig \ Pipeline.arrRefs spec0

theorem arrRefs_sub : Pipeline.arrRefs spec0 ⊆ Pipeline.ucRefs τ sig := Pipeline.arrRefs_sub_ucRefs spec0 (by decide)

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What the region is entered with from the launch on, -/
abbrev Tk (c : Dev nD) : sProp 𝕄 := kit (wires (wcat m) (xcat m)) c
/-- once its cells are open, -/
abbrev Xk (c : Dev nD) : sProp 𝕄 := ready0 (wires (wcat m) (xcat m)) c
/-- and what it leaves. -/
abbrev Yk (c : Dev nD) : sProp 𝕄 := semVal (barCell c) 0

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V₁ m c) ∗ Xk m c) ⊢ (pdats m 0 c).Φ 0 := by
  rw [show (pdats m 0 c).Φ 0 = inv0 m c from rfl, held_none,
    show (Pipeline.scopedRest (Pipeline.pin (pcfgs (F := F)) adm 0).spec c : sProp 𝕄) = whole c from scopedRest0_eq c]
  unfold inv0
  iintro ⟨Hw, Hp, -, HX⟩
  isplitl [HX]; · iexact HX
  isplitl [Hw] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ Yk c) := by
  rw [show (pdats m 0 c).Φ (Fin.last _) = inv1 c from rfl, held_none,
    show (Pipeline.scopedRest (Pipeline.pin (pcfgs (F := F)) adm 0).spec c : sProp 𝕄) = whole c from scopedRest0_eq c]
  unfold inv1
  iintro ⟨Hb, Hw, Hs, Hp⟩
  isplitl [Hw]; · iexact Hw
  isplitl [Hp]; · iexact Hp
  isplitr; · iempintro
  isplitl [Hs] <;> iassumption

theorem cut (c : Dev nD) (t : Fin ((Pipeline.pin (pcfgs (F := F)) adm 0).N + 1)) (g : GSem nD τ sig) (i : ℕ) (h : 0 < (pdats (F := F) m 0 c).owed t g i) :
    i ∈ SiteBlocks.L nLv g ∧ 0 < SiteBlocks.lv g i := by
  have e : (pdats (F := F) m 0 c).owed t = if t.val = 0 then O₀ c else 0 := rfl
  rw [e] at h
  split at h
  · obtain ⟨x, hx, rfl, rfl⟩ := TalkSites.tallyL_pos h
    rw [due_eq] at hx
    obtain ⟨y, -, rfl⟩ := List.mem_map.mp hx
    rcases y with y | ⟨p, j⟩
    · exact ⟨SiteBlocks.mem_L' rfl (by show 1 < nLv; decide), Nat.one_pos⟩
    · exact ⟨SiteBlocks.mem_L' rfl (lvl_lt p.1 p.2), by show 0 < 2 + 2 * p.1.val + p.2.val; omega⟩
  · exact absurd h (Nat.lt_irrefl 0)

/-- The output's one block is the whole array. -/
theorem blk_emb (j : S128x128.Idx) : ((cfg0.win 2).blk t0_0).view.emb j = j := by
  refine funext fun a => Fin.ext ?_
  fin_cases a <;> exact (Nat.zero_add _).trans (Nat.one_mul _)

/-- Every window's array at the end of the region: the inputs as found, the output at the result. -/
theorem arr_last (c : Dev nD) (w : Fin 3) : (dat m c).arrAt w cfg0.N = V₂ m c (Proc.devRef .tc (Pipeline.arrRef spec0 w)) := by
  match w with
  | 0 => exact ((dat m c).arrAt_in 0 rfl _).trans (V₂_ne m c main_v1 (by decide)).symm
  | 1 => exact ((dat m c).arrAt_in 1 rfl _).trans (V₂_ne m c main_v2 (by decide)).symm
  | 2 =>
    refine Eq.trans ?_ (V₂_res m c).symm
    refine (dat m c).arrAt_eq_of_cover 2 (res m c) (fun t _ => ?_) fun i => ⟨t0_0, flush0_2 _, ?_⟩
    · obtain rfl := fin_N0 t
      funext j
      exact congrArg (res m c) (blk_emb j).symm
    · have h := ((cfg0.win 2).blk t0_0).view.emb_mem_set i
      rwa [blk_emb] at h

theorem levelCut : Pipeline.LevelCutOwed (pcfgs (F := F)) adm (pdats m) 0 (SiteBlocks.L nLv) SiteBlocks.lv 0 (fun _ => 0) where
  hι c w s := SiteBlocks.mem_L' rfl (by decide)
  hιb c w s := le_refl 0
  hD c t g i h := cut m c t g i h

set_option backward.isDefEq.respectTransparency.types false in
/-- The region: the kernel's body once on every device. -/
def reg : Pipeline.RegionSeg (Name := ℕ) (U := UU) (pcfgs (F := F)) adm (pdats m) 0 defs₀ 𝒱₀ (SiteBlocks.L nLv) SiteBlocks.lv 0 :=
  Pipeline.RegionSeg.ofTalk (pcfgs (F := F)) adm (pdats m) 0 defs₀ 𝒱₀ (SiteBlocks.L nLv) SiteBlocks.lv 0 osem (by decide : Pipeline.OwnSemFacts spec0 osem)
    ∅ args (Finset.empty_subset _) kitP rfl (fun c => (body m c).loose)
    (fun _ => 0) O₀ (fun c => (owed_zero m c).trans (zero_add _).symm) (owed_last m) (fun _ => rfl)
    (fun c w => by show (if _ then fullShare else fullShare) = fullShare; exact ite_self _)
    (V₁ m) (V₂ m)
    (fun c b hb => Function.update_of_ne (fun h => (Finset.mem_sdiff.mp (Finset.mem_sdiff.mp hb).1).2 (by rw [h]; decide)) _ _)
    (Tk m) Yk (Xk m) Yk (openKit _) (hin m) (hout m)
    (fun c => by iintro H; imodintro; iexact H)
    (fun _ => 0) (levelCut m) (fun _ => iprop(emp))
    (fun _ _ => rfl) (arr_last m)

/-! ## The run -/

/-- What rides beside the buffers up to the region. -/
abbrev Rr (c : Dev nD) : sProp 𝕄 := iprop((∃ r, prngReg c r) ∗ Tk m c ∗ ∃ W, owes (c : Thread nD τ) (O₀ c) W)

/-- The host operations: the weights joined. -/
def seg : Pipeline.HostSeg (Name := ℕ) (U := UU) (pcfgs (F := F)) defs₀ 𝒱₀ (SiteBlocks.L nLv) SiteBlocks.lv :=
  Pipeline.HostSeg.ofOps _ _ _ _ _ (Pipeline.ucRefs τ sig) hostOps0
    (fun op h => Pipeline.sub_ucRefs op (List.forall_iff_forall_mem.mp hostOps0_sub op h))
    (List.forall_iff_forall_mem.mp hostOps0_fresh) (V₀ m) (Rr m)

def segs : List (Pipeline.Seg (Name := ℕ) (U := UU) (pcfgs (F := F)) adm (pdats m) 0 defs₀ 𝒱₀ (SiteBlocks.L nLv) SiteBlocks.lv) :=
  [.host (seg m), .region (reg m)]

theorem main_eq (c : Dev nD) : main (F := F) c = Pipeline.Seg.run (segs m) := main_segs adm (pdats m) 0 𝒱₀ _ _ (seg m) (reg m) rfl c

theorem reg_pre (c : Dev nD) : iprop(StableHlo.held (c : Thread nD τ) (Pipeline.ucRefs τ sig) (V₁ m c) ∗ Rr m c) ⊢ (reg m).pre c := by
  show _ ⊢ iprop(StableHlo.held (c.tc : Thread nD τ) (Pipeline.arrRefs (τ := τ) spec0) (V₁ m c) ∗ (∃ r, prngReg c r)
    ∗ (StableHlo.held (c.tc : Thread nD τ) args (V₁ m c) ∗ emp) ∗ Tk m c ∗ ∃ Wd, owes (c : Thread nD τ) (0 + O₀ c) Wd)
  rw [StableHlo.held_sub_split (c.tc : Thread nD τ) arrRefs_sub (V₁ m c), zero_add]
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

/-- What a device ends with. -/
abbrev Tₙ (c : Dev nD) : sProp 𝕄 := iprop(StableHlo.held (c : Thread nD τ) (Pipeline.ucRefs τ sig) (V₂ m c) ∗ semVal (barCell c) 0)

theorem reg_post (c : Dev nD) : (reg m).post c ⊢ iprop(Tₙ m c ∗ ∃ W, owes (c : Thread nD τ) (0 : CellTallies nD τ sig ℕ) W) := by
  show iprop(StableHlo.held (c.tc : Thread nD τ) (Pipeline.arrRefs (τ := τ) spec0) (V₂ m c) ∗ (∃ r, prngReg c r)
    ∗ (StableHlo.held (c.tc : Thread nD τ) args (V₂ m c) ∗ emp) ∗ Yk c ∗ ∃ Wd, owes (c : Thread nD τ) (0 : CellTallies nD τ sig ℕ) Wd) ⊢ _
  unfold Tₙ
  rw [StableHlo.held_sub_split (c.tc : Thread nD τ) arrRefs_sub (V₂ m c)]
  iintro ⟨Ha, -, ⟨Hr, -⟩, Hb, HO⟩
  isplitr [HO]
  · isplitl [Ha Hr]; · isplitl [Ha] <;> iassumption
    iexact Hb
  iexact HO

/-- The protocol's launch element. -/
abbrev ring₀ : URounds (GSem nD τ sig) (Fin 3) := launchOf fam.S fam.Sd fam.T

def u₀ : UU := (initOf (Pipeline.cells (Pipeline.pin (pcfgs (F := F)) adm) cellOf_inj) (Pipeline.launchToks (Pipeline.pin (pcfgs (F := F)) adm) cellOf_inj), ring₀)

/-- The launch element is dealt at once: it is all held for device 0 until then. -/
def G (c : Dev nD) : sProp 𝕄 := if c = 0 then BI.own (ER ring₀) else iprop(emp)

theorem bigSep_G : bigSep Finset.univ (G (F := F)) = BI.own (ER ring₀) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) (Pipeline.ucRefs τ sig) (V₀ m c) ∗ Rr m c)

/-- What of a device's launch is not the protocol's. -/
def rest (c : Dev nD) : sProp 𝕄 := iprop(StableHlo.held (c : Thread nD τ) (Pipeline.ucRefs τ sig) (V₀ m c)
  ∗ (∃ W, owes (c : Thread nD τ) (O₀ c) W) ∗ creds c ∗ ∃ r, prngReg c r)

/-- The launch: the protocol's cells allocated, its tokens and rights dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts (SiteBlocks.L nLv) SiteBlocks.lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop((rest m c ∗ (semVal ((c.tc : Thread nD τ), fam.bar) 0 ∗ Pipeline.launchCred (fun _ => 0) c)) ∗ G c) : sProp 𝕄) := by
    rw [show (unscopedBufs c (fun b => m ((c : Thread nD τ).loc b)) : sProp 𝕄) = StableHlo.held (c : Thread nD τ) (Pipeline.ucRefs τ sig) (V₀ m c) from
      Pipeline.unscopedBufs_held c (V₀ m c), unscopedSems0_eq,
      Pipeline.launchCred_zero]
    unfold rest
    iintro ⟨Hh, Hv, HO, Hc, Hp, HG⟩
    isplitr [HG]
    · isplitr [Hv]
      · isplitl [Hh]; · iexact Hh
        isplitl [HO]; · iexists ∅; iexact HO
        isplitl [Hc]; · iapply (launchCred_creds c); iexact Hc
        iexists (ρ c); iexact Hp
      isplitl [Hv]; · iexact Hv
      iempintro
    iexact HG
  have hfin (c : Dev nD) : iprop(rest m c ∗ fam.launched ER (rd (wires (wcat m) (xcat m))) (fun _ => Finset.univ) c) ⊢ (T₀ m c : sProp 𝕄) := by
    unfold rest
    iintro ⟨⟨Hh, HO, Hc, Hp⟩, HL⟩
    isplitl [Hh]; · iexact Hh
    isplitl [Hp]; · iexact Hp
    isplitr [HO]
    · unfold Tk kit
      isplitl [HL] <;> iassumption
    iexact HO
  have h1 : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ (rest m) ∗ bigSep Finset.univ fun c : Dev nD => iprop(semVal ((c.tc : Thread nD τ), fam.bar) 0
          ∗ Pipeline.launchCred (fun _ => 0) c)) ∗ BI.own (ER ring₀)) : sProp 𝕄) := by
    rw [← bigSep_G, ← bigSep_sep', ← bigSep_sep']
    exact bigSep_mono fun c _ => hcore c
  have h2 : iprop(bigSep Finset.univ (rest m) ∗ bigSep Finset.univ (fam.launched ER (rd (wires (wcat m) (xcat m))) fun _ => Finset.univ))
      ⊢ (bigSep Finset.univ (T₀ m) : sProp 𝕄) := by
    rw [← bigSep_sep']
    exact bigSep_mono fun c _ => hfin c
  have h3 := fam.funds ER (rd (wires (wcat m) (xcat m))) (fun _ _ h => h) (fun _ => Finset.univ) (Es := Set.univ)
  iintro ⟨H, -⟩
  ihave H := h1 $$ H
  icases H with ⟨⟨Hr, Hv⟩, HG⟩
  imod h3 $$ [Hv HG] with HL
  · isplitl [Hv] <;> iassumption
  imodintro
  iapply h2
  isplitl [Hr] <;> iassumption

theorem unscoped_eq : ∀ sm : SemLoc sig, sm.isScoped .tc = false → sm = .reg barS := by decide

/-- A device's buffers one by one. -/
theorem bufs_eq (c : Dev nD) (W : Valuation τ sig (Elt F)) : (StableHlo.held (c : Thread nD τ) (Pipeline.ucRefs τ sig) W : sProp 𝕄)
    = iprop((((c : Thread nD τ).loc main_arg0) ↦{fullShare} W main_arg0) ∗ (((c : Thread nD τ).loc main_arg1) ↦{fullShare} W main_arg1)
      ∗ (((c : Thread nD τ).loc main_arg2) ↦{fullShare} W main_arg2) ∗ (((c : Thread nD τ).loc main_arg3) ↦{fullShare} W main_arg3)
      ∗ (((c : Thread nD τ).loc main_arg4) ↦{fullShare} W main_arg4) ∗ (((c : Thread nD τ).loc main_arg5) ↦{fullShare} W main_arg5)
      ∗ (((c : Thread nD τ).loc main_arg6) ↦{fullShare} W main_arg6) ∗ (((c : Thread nD τ).loc main_v1) ↦{fullShare} W main_v1)
      ∗ (((c : Thread nD τ).loc main_v2) ↦{fullShare} W main_v2) ∗ (((c : Thread nD τ).loc main_v3) ↦{fullShare} W main_v3)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_arg5, Proc.devRef .tc main_arg6, Proc.devRef .tc main_v1, Proc.devRef .tc main_v2,
    Proc.devRef .tc main_v3] (by decide) (by decide)]
  rfl

/-- The run: from any memory, every semaphore at zero, every fair execution of the program on the four devices ends, with every
argument as it was, the result on every device what the protocol's values say, and every semaphore at zero. -/
theorem run_main : θ_run defs (onTc (τ := τ) (main (F := F))) ⟨m, fun _ => 0, ρ⟩
    (fun r => (∀ c : Dev nD,
        (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
        ∧ r.2.mem ((c.tc : Thread nD τ).loc main_v3) = res m c) ∧ r.2.sem = fun _ => 0) :=
  Pipeline.θ_run_regions_kit_sems (pcfgs (F := F)) adm (pdats m) 0 cellOf_inj EP defs₀ 𝒱₀ (SiteBlocks.L nLv) SiteBlocks.lv m ρ main (segs m)
    (fun c Q => by rw [main_eq m c])
    (by simp only [segs, Pipeline.Seg.pipes_host, Pipeline.Seg.pipes_region, Pipeline.Seg.pipes_nil]; decide)
    (O₀ := O₀) (hL := SiteBlocks.hL nLv) (G := G) (u₀ := u₀)
    (hu₀ := by
      unfold u₀
      iintro Hu
      ihave H := (ownU_pair _ _) $$ Hu
      icases H with ⟨HP, HX⟩
      imodintro
      isplitl [HP]; · iexact HP
      rw [bigSep_G]; iexact HX)
    (T₀ := T₀ m) (Tₙ := Tₙ m)
    (hch := ⟨fun c => .rfl, fun c => reg_pre m c, fun c => reg_post m c⟩)
    (hinit := init m ρ)
    (QY := fun c s =>
      ((s.mem ((c.tc : Thread nD τ).loc main_arg0) = V₂ m c main_arg0 ∧ s.mem ((c.tc : Thread nD τ).loc main_arg1) = V₂ m c main_arg1
        ∧ s.mem ((c.tc : Thread nD τ).loc main_arg2) = V₂ m c main_arg2 ∧ s.mem ((c.tc : Thread nD τ).loc main_arg3) = V₂ m c main_arg3
        ∧ s.mem ((c.tc : Thread nD τ).loc main_arg4) = V₂ m c main_arg4 ∧ s.mem ((c.tc : Thread nD τ).loc main_arg5) = V₂ m c main_arg5
        ∧ s.mem ((c.tc : Thread nD τ).loc main_arg6) = V₂ m c main_arg6)
      ∧ s.mem ((c.tc : Thread nD τ).loc main_v3) = V₂ m c main_v3) ∧ s.sem (barCell c) = 0)
    (hfin := fun c s' => by
      dsimp only [Tₙ]; rw [bufs_eq]
      iintro ⟨⟨⟨H0, H1, H2, H3, H4, H5, H6, -, -, H9⟩, Hb⟩, HSI⟩
      icombine HSI H0 gives %h0
      icombine HSI H1 gives %h1
      icombine HSI H2 gives %h2
      icombine HSI H3 gives %h3
      icombine HSI H4 gives %h4
      icombine HSI H5 gives %h5
      icombine HSI H6 gives %h6
      icombine HSI H9 gives %h9
      icombine HSI Hb gives %hb
      imodintro
      isplitr
      · ipureintro
        exact ⟨⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5, Buf.eq_of_forall_mem_univ h6⟩, Buf.eq_of_forall_mem_univ h9⟩, by simpa using hb⟩
      iexact HSI)
    (hQ := fun s h hs => ⟨fun c => by
        obtain ⟨⟨⟨h0, h1, h2, h3, h4, h5, h6⟩, h9⟩, -⟩ := h c
        exact ⟨⟨h0.trans ((V₂_ne m c main_arg0 (by decide)).trans (V_main_arg0 m c)), h1.trans ((V₂_ne m c main_arg1 (by decide)).trans (V_main_arg1 m c)),
          h2.trans ((V₂_ne m c main_arg2 (by decide)).trans (V_main_arg2 m c)), h3.trans ((V₂_ne m c main_arg3 (by decide)).trans (V_main_arg3 m c)),
          h4.trans ((V₂_ne m c main_arg4 (by decide)).trans (V_main_arg4 m c)), h5.trans ((V₂_ne m c main_arg5 (by decide)).trans (V_main_arg5 m c)),
          h6.trans ((V₂_ne m c main_arg6 (by decide)).trans (V_main_arg6 m c))⟩, h9.trans (V₂_res m c)⟩,
      sem_eq_zero hs fun c sm hsm => by
        obtain rfl := unscoped_eq sm hsm
        exact (h c).2⟩)

end Cert.KernelIdeal.Ring

end
-- ==== Proof.Value.lean ====
/-
# The value: every device's result is the reference's

At the extended reals narrowing loses nothing, so what a device adds up over the four devices is the sum of their products.
Each product is a sum over the 256 hidden units its device keeps, and the 1024 hidden units of the reference are those of the
four devices one after another. So after each layer every device holds the reference's rows, and after the last its result.
-/
module

public import proofs.«01_k».proof.Proof.KernelIdeal.Launch
public import proofs.«01_k».proof.Proof.Gen.ReferenceIdeal.Run
public import Idealize.ShloMosaic.Lib.Pointwise
public import Idealize.ShloMosaic.Lib.Layout

@[expose] public section

set_option maxRecDepth 16384

noncomputable section

namespace Cert.Proof.Value

open Cert.KernelIdeal Cert.KernelIdeal.Gen Cert.KernelIdeal.Ring
open Idealize.ShloMosaic Idealize.ShloMosaic.TcCoe Idealize.SL.Sem Idealize.ShloMosaic.StableHlo
open Idealize.ShloMosaic.View (ld)

/-! ## The arithmetic at an index -/

/-- A layer on a device: over the hidden units of the device, the rectified row times column, times the second weights. -/
theorem layerV_apply (x : FVec Ideal S64x128 .f32) (w : FVec Ideal S128x256 .f32) (u : FVec Ideal S256x128 .f32)
    (r : Fin 64) (n : Fin 128) :
    layerV x w u (ix2 r n) = ∑ k : Fin 256, max (∑ i : Fin 128, x (ix2 r i) * w (ix2 i k)) 0 * u (ix2 k n) := by
  pointwise [layerV]

/-- A layer of the reference. -/
def refV (x : FVec Ideal S128x128 .f32) (W : FVec Ideal Cert.ReferenceIdeal.S128x1024 .f32)
    (U : FVec Ideal Cert.ReferenceIdeal.S1024x128 .f32) : FVec Ideal S128x128 .f32 :=
  Host.dotGeneral Cert.ReferenceIdeal.dot_S128x1024_S1024x128_S128x128_1_0_0_1_n_n none
    (maximumf (Host.dotGeneral Cert.ReferenceIdeal.dot_S128x128_S128x1024_S128x1024_1_0_0_1_n_n none x W)
      (broadcastInDim Cert.ReferenceIdeal.S128x1024 ![] Cert.ReferenceIdeal.Facts₀.bcast_S_S128x1024
        (constant Cert.ReferenceIdeal.S_ .f32 0x00000000#32))) U

/-- The same over all the hidden units. -/
theorem refV_apply (x : FVec Ideal S128x128 .f32) (W : FVec Ideal Cert.ReferenceIdeal.S128x1024 .f32)
    (U : FVec Ideal Cert.ReferenceIdeal.S1024x128 .f32) (r n : Fin 128) :
    refV x W U (ix2 r n) = ∑ k : Fin 1024, max (∑ i : Fin 128, x (ix2 r i) * W (ix2 i k)) 0 * U (ix2 k n) := by
  pointwise [refV]

/-- A device's sum is the sum over the devices. -/
theorem sumOf_apply (P : Dev nD → FVec Ideal S64x128 .f32) (c : Dev nD) (y : S64x128.Idx) :
    sumOf P c y = ∑ d : Fin 4, P d y := by
  have h : sumOf P c y = P c y + P (peer c 0) y + P (peer c 2) y + P (peer c 1) y := by
    pointwise [sumOf, addV, wireV]
  rw [h, Fin.sum_univ_four]
  match c with
  | 0 => show P 0 y + P 1 y + P 3 y + P 2 y = _; ac_rfl
  | 1 => show P 1 y + P 2 y + P 0 y + P 3 y = _; ac_rfl
  | 2 => show P 2 y + P 3 y + P 1 y + P 0 y = _; ac_rfl
  | 3 => show P 3 y + P 0 y + P 2 y + P 1 y = _; ac_rfl

/-- A sum over 1024 is four sums over 256, one after another. -/
theorem sum_blocks (f : Fin 1024 → EReal) :
    ∑ k, f k = ∑ d : Fin 4, ∑ k : Fin 256, f ⟨d.val * 256 + k.val, by omega⟩ := by
  rw [← Fintype.sum_prod_type' (f := fun (d : Fin 4) (k : Fin 256) => f ⟨d.val * 256 + k.val, by omega⟩)]
  refine (Fintype.sum_equiv (finProdFinEquiv (m := 4) (n := 256)) _ _ fun p => congrArg f (Fin.ext ?_)).symm
  simp [finProdFinEquiv]; omega

/-! ## The arrays a device's kernel reads -/

/-- Layer `l`'s part of three stacked first weights is the `l`-th. -/
theorem ld_cat3 (u0 u1 u2 : FVec Ideal S128x256 .f32) (l : Fin 3) (i : Fin 128) (k : Fin 256) :
    ld (Val := Elt Ideal) (e' := .f32) (concatenate S384x256 0 [⟨S128x256, u0⟩, ⟨S128x256, u1⟩, ⟨S128x256, u2⟩]
      Facts₀.concatenates_S128x256_S128x256_S128x256_S384x256_d0) (wR l) (ix2 i k) = (![u0, u1, u2] l) (ix2 i k) := by
  fin_cases l <;> pointwise
  rw [dif_neg (by omega), dif_neg (by omega)]
  exact congrArg (fun a => u2 (ix2 a k)) (Fin.ext (by show 256 + i.val - 128 - 128 = i.val; omega))

/-- Half `b` of the rows is that half of the first of the stacked rows and second weights, -/
theorem ld_cat4_rows (x : FVec Ideal S128x128 .f32) (u0 u1 u2 : FVec Ideal S256x128 .f32) (b : Fin 2) (r : Fin 64) (n : Fin 128) :
    ld (Val := Elt Ideal) (e' := .f32) (concatenate S896x128 0 [⟨S128x128, x⟩, ⟨S256x128, u0⟩, ⟨S256x128, u1⟩, ⟨S256x128, u2⟩]
      Facts₀.concatenates_S128x128_S256x128_S256x128_S256x128_S896x128_d0) (xR b) (ix2 r n)
      = x (ix2 ⟨b.val * 64 + r.val, by omega⟩ n) := by
  fin_cases b <;> pointwise <;> rw [dif_pos (by omega)]

/-- and layer `l`'s part is the `l`-th of the second weights. -/
theorem ld_cat4 (x : FVec Ideal S128x128 .f32) (u0 u1 u2 : FVec Ideal S256x128 .f32) (l : Fin 3) (k : Fin 256) (n : Fin 128) :
    ld (Val := Elt Ideal) (e' := .f32) (concatenate S896x128 0 [⟨S128x128, x⟩, ⟨S256x128, u0⟩, ⟨S256x128, u1⟩, ⟨S256x128, u2⟩]
      Facts₀.concatenates_S128x128_S256x128_S256x128_S256x128_S896x128_d0) (uR l) (ix2 k n) = (![u0, u1, u2] l) (ix2 k n) := by
  fin_cases l <;> pointwise
  · rw [dif_neg (by omega), dif_neg (by omega), dif_pos (by omega)]
    exact congrArg (fun a => u1 (ix2 (n0 := 256) (n1 := 128) a n))
      (Fin.ext (a := ⟨384 + k.val - 128 - 256, by omega⟩) (by show 384 + k.val - 128 - 256 = k.val; omega))
  · rw [dif_neg (by omega), dif_neg (by omega), dif_neg (by omega)]
    exact congrArg (fun a => u2 (ix2 (n0 := 256) (n1 := 128) a n))
      (Fin.ext (a := ⟨640 + k.val - 128 - 256 - 256, by omega⟩) (by show 640 + k.val - 128 - 256 - 256 = k.val; omega))

variable (m : (ℓ : Loc nD τ sig) → Buf (Elt Ideal) ℓ)

/-- The stacked first weights are the three weights, one after another, -/
theorem wcat_eq (c : Dev nD) : wcat m c = concatenate S384x256 0 [⟨S128x256, m ((c.tc : Thread nD τ).loc main_arg1)⟩,
    ⟨S128x256, m ((c.tc : Thread nD τ).loc main_arg2)⟩, ⟨S128x256, m ((c.tc : Thread nD τ).loc main_arg3)⟩]
    Facts₀.concatenates_S128x256_S128x256_S128x256_S384x256_d0 := by
  unfold wcat V
  after_results
  rfl

/-- and the other array is the rows and the second weights. -/
theorem xcat_eq (c : Dev nD) : xcat m c = concatenate S896x128 0 [⟨S128x128, m ((c.tc : Thread nD τ).loc main_arg0)⟩,
    ⟨S256x128, m ((c.tc : Thread nD τ).loc main_arg4)⟩, ⟨S256x128, m ((c.tc : Thread nD τ).loc main_arg5)⟩,
    ⟨S256x128, m ((c.tc : Thread nD τ).loc main_arg6)⟩]
    Facts₀.concatenates_S128x128_S256x128_S256x128_S256x128_S896x128_d0 := by
  unfold xcat V
  after_results
  rfl

/-! ## The layers -/

/-- Half `b` of the rows of an array. -/
def half (b : Fin 2) (x : FVec Ideal S128x128 .f32) : FVec Ideal S64x128 .f32 := fun y =>
  x (ix2 (n0 := 128) (n1 := 128) ⟨b.val * 64 + (y 0).val, by have : (y 0).val < 64 := (y 0).isLt; omega⟩ ⟨(y 1).val, (y 1).isLt⟩)

/-- Where every device's weights are its part of whole weights, the sum over the devices of a layer's products is the layer. -/
theorem layer_eq (A : WIn Ideal) (B : XIn Ideal) (l : Fin 3) (b : Fin 2) (x : FVec Ideal S128x128 .f32)
    (W : FVec Ideal Cert.ReferenceIdeal.S128x1024 .f32) (U : FVec Ideal Cert.ReferenceIdeal.S1024x128 .f32)
    (hA : ∀ (c : Fin 4) (i : Fin 128) (k : Fin 256),
      ld (Val := Elt Ideal) (e' := .f32) (A c) (wR l) (ix2 i k) = W (ix2 i ⟨c.val * 256 + k.val, by omega⟩))
    (hB : ∀ (c : Fin 4) (k : Fin 256) (n : Fin 128),
      ld (Val := Elt Ideal) (e' := .f32) (B c) (uR l) (ix2 k n) = U (ix2 ⟨c.val * 256 + k.val, by omega⟩ n)) (c : Dev nD) :
    sumOf (fun d => lay A B d l (half b x)) c = half b (refV x W U) := by
  funext y
  obtain ⟨r, n, rfl⟩ : ∃ (r : Fin 64) (n : Fin 128), y = ix2 r n := ⟨y 0, y 1, eq_ix2 y⟩
  rw [sumOf_apply]
  show _ = refV x W U (ix2 ⟨b.val * 64 + r.val, _⟩ n)
  rw [refV_apply, sum_blocks]
  refine Finset.sum_congr rfl fun d _ => ?_
  unfold lay
  rw [layerV_apply]
  refine Finset.sum_congr rfl fun k _ => ?_
  rw [hB d k n]
  refine congrArg (fun s => max s 0 * _) (Finset.sum_congr rfl fun i _ => ?_)
  rw [hA d i k]
  rfl

/-- With the reference's arguments laid out over the devices, every device's result is the reference's. -/
theorem res_eq (x : FVec Ideal S128x128 .f32) (W : Fin 3 → FVec Ideal Cert.ReferenceIdeal.S128x1024 .f32)
    (U : Fin 3 → FVec Ideal Cert.ReferenceIdeal.S1024x128 .f32)
    (h0 : ∀ c : Dev nD, m ((c.tc : Thread nD τ).loc main_arg0) = x)
    (h1 : ∀ c : Dev nD, m ((c.tc : Thread nD τ).loc main_arg1) = Layout.block ⟨2, ![128, 256]⟩ ⟨2, ![128, 1024]⟩ 1 4 c (W 0))
    (h2 : ∀ c : Dev nD, m ((c.tc : Thread nD τ).loc main_arg2) = Layout.block ⟨2, ![128, 256]⟩ ⟨2, ![128, 1024]⟩ 1 4 c (W 1))
    (h3 : ∀ c : Dev nD, m ((c.tc : Thread nD τ).loc main_arg3) = Layout.block ⟨2, ![128, 256]⟩ ⟨2, ![128, 1024]⟩ 1 4 c (W 2))
    (h4 : ∀ c : Dev nD, m ((c.tc : Thread nD τ).loc main_arg4) = Layout.block ⟨2, ![256, 128]⟩ ⟨2, ![1024, 128]⟩ 0 4 c (U 0))
    (h5 : ∀ c : Dev nD, m ((c.tc : Thread nD τ).loc main_arg5) = Layout.block ⟨2, ![256, 128]⟩ ⟨2, ![1024, 128]⟩ 0 4 c (U 1))
    (h6 : ∀ c : Dev nD, m ((c.tc : Thread nD τ).loc main_arg6) = Layout.block ⟨2, ![256, 128]⟩ ⟨2, ![1024, 128]⟩ 0 4 c (U 2))
    (c : Dev nD) : res m c = refV (refV (refV x (W 0) (U 0)) (W 1) (U 1)) (W 2) (U 2) := by
  have hA : ∀ (l : Fin 3) (c : Fin 4) (i : Fin 128) (k : Fin 256),
      ld (Val := Elt Ideal) (e' := .f32) (wcat m c) (wR l) (ix2 i k) = W l (ix2 i ⟨c.val * 256 + k.val, by omega⟩) := by
    intro l c i k
    rw [wcat_eq, ld_cat3, h1, h2, h3]
    fin_cases l <;> exact congrArg (W _) (eq_ix2 _)
  have hB : ∀ (l : Fin 3) (c : Fin 4) (k : Fin 256) (n : Fin 128),
      ld (Val := Elt Ideal) (e' := .f32) (xcat m c) (uR l) (ix2 k n) = U l (ix2 ⟨c.val * 256 + k.val, by omega⟩ n) := by
    intro l c k n
    rw [xcat_eq, ld_cat4, h4, h5, h6]
    fin_cases l <;> exact congrArg (U _) (eq_ix2 _)
  have hX : ∀ (b : Fin 2) (c : Dev nD), rows (xcat m) b c = half b x := by
    intro b c
    funext y
    obtain ⟨r, n, rfl⟩ : ∃ (r : Fin 64) (n : Fin 128), y = ix2 r n := ⟨y 0, y 1, eq_ix2 y⟩
    have hr : rows (xcat m) b c (ix2 r n) = ld (Val := Elt Ideal) (e' := .f32) (xcat m c) (xR b) (ix2 r n) :=
      congrFun (shapeCast_self _ _) _
    rw [hr, xcat_eq, ld_cat4_rows, h0]
    rfl
  have hS : ∀ b : Fin 2, sumOf (prod (wcat m) (xcat m) 2 b) c
      = half b (refV (refV (refV x (W 0) (U 0)) (W 1) (U 1)) (W 2) (U 2)) := by
    intro b
    show sumOf (fun c => lay (wcat m) (xcat m) c 2 (sumOf (fun c => lay (wcat m) (xcat m) c 1
      (sumOf (fun c => lay (wcat m) (xcat m) c 0 (rows (xcat m) b c)) c)) c)) c = _
    simp only [hX]
    simp only [layer_eq (wcat m) (xcat m) 0 b _ _ _ (hA 0) (hB 0)]
    simp only [layer_eq (wcat m) (xcat m) 1 b _ _ _ (hA 1) (hB 1)]
    exact layer_eq (wcat m) (xcat m) 2 b _ _ _ (hA 2) (hB 2) c
  funext y
  obtain ⟨r, n, rfl⟩ : ∃ r n : Fin 128, y = ix2 r n := ⟨y 0, y 1, eq_ix2 y⟩
  unfold res outV
  rw [hS]
  refine congrArg (fun a => refV (refV (refV x (W 0) (U 0)) (W 1) (U 1)) (W 2) (U 2) (ix2 (n1 := 128) a n)) (Fin.ext ?_)
  show r.val / 64 * 64 + r.val % 64 = r.val
  omega

end Cert.Proof.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel at bit patterns: its run with the values dropped. -/
theorem frame_kernel : quiescent_Kernel := fun m g _ =>
  (θ_run Cert.Kernel.defs _ _).mono (fun _ h => ⟨fun c => (h.1 c).1, h.2⟩) (Cert.Kernel.Ring.run_main m g)

/-- The same at the extended reals. -/
theorem frame_kernelIdeal : quiescent_KernelIdeal := fun m g _ =>
  (θ_run Cert.KernelIdeal.defs _ _).mono (fun _ h => ⟨fun c => (h.1 c).1, h.2⟩) (Cert.KernelIdeal.Ring.run_main m g)

/-- The reference's run with the values dropped. -/
theorem frame_referenceIdeal : quiescent_ReferenceIdeal := fun m g _ =>
  (θ_run Cert.ReferenceIdeal.defs _ _).mono (fun _ h => ⟨fun c => (h c).2, sem_eq_zero_of_no_sems rfl _⟩) (Cert.ReferenceIdeal.Value.run m g)

/-- Every device's result is the reference's: its sums over the devices are the reference's sums over all hidden units. -/
theorem algebraic_kernel : algebraic_KernelIdeal_ReferenceIdeal := fun m g m' g' _ h =>
  let arg (b : Ref Cert.ReferenceIdeal.sig .tc) := m' (((0 : Dev Cert.ReferenceIdeal.nD).tc : Thread Cert.ReferenceIdeal.nD Cert.ReferenceIdeal.τ).loc b)
  ⟨Value.refV (Value.refV (Value.refV (arg Cert.ReferenceIdeal.main_arg0) (arg Cert.ReferenceIdeal.main_arg1) (arg Cert.ReferenceIdeal.main_arg4))
      (arg Cert.ReferenceIdeal.main_arg2) (arg Cert.ReferenceIdeal.main_arg5)) (arg Cert.ReferenceIdeal.main_arg3) (arg Cert.ReferenceIdeal.main_arg6),
    (θ_run Cert.KernelIdeal.defs _ _).mono
      (fun _ hr c => ⟨(hr.1 c).2.trans (Value.res_eq m (arg Cert.ReferenceIdeal.main_arg0)
          ![arg Cert.ReferenceIdeal.main_arg1, arg Cert.ReferenceIdeal.main_arg2, arg Cert.ReferenceIdeal.main_arg3]
          ![arg Cert.ReferenceIdeal.main_arg4, arg Cert.ReferenceIdeal.main_arg5, arg Cert.ReferenceIdeal.main_arg6]
          (fun d => (h d).1) (fun d => (h d).2.1) (fun d => (h d).2.2.1) (fun d => (h d).2.2.2.1) (fun d => (h d).2.2.2.2.1)
          (fun d => (h d).2.2.2.2.2.1) (fun d => (h d).2.2.2.2.2.2) c), (hr.1 c).1⟩)
      (Cert.KernelIdeal.Ring.run_main m g),
    (θ_run Cert.ReferenceIdeal.defs _ _).mono (fun _ hr => hr 0) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_referenceIdeal, trivial, algebraic_kernel⟩

end Cert.Proof

end
